-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x2048x1024 .f32) (main_arg5 : FVec F S8x1024 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048x1024 .f32 := Host.absf main_arg4
  let main_cst_6 : FVec F S_ .f32 := constant S_ .f32 0x7F800000#32
  let main_v20 : FVec F S8x2048x1024 .f32 := broadcastInDim S8x2048x1024 ![] bcast_S_S8x2048x1024 main_cst_6
  let main_v21 : IVec S8x2048x1024 1 := cmpf .olt main_v19 main_v20
  let main_c_7 : IVec S_ 1 := constantI S_ 1 1#1
  let main_v22 : IVec S_ 1 := (fun x v => Host.reduce IntOp.andi x v reducesTo_S8x2048x1024_S_d0_1_2 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  main_v28

def fn {F : FTy → Type} [FloatOps F] (main_arg0 : FVec F S2048x1024 .f32) (main_arg1 : FVec F S1024x8 .f32) (main_arg2 : FVec F S8x1024x2048 .f32) (main_arg3 : FVec F S8x2048 .f32) (main_arg4 : FVec F S8x2048x1024 .f32) (main_arg5 : FVec F S8x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_v13 main_v16
-- ==== Kernel.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x2 : Shape := ⟨2, ![2048, 2]⟩
abbrev S256x1024 : Shape := ⟨2, ![256, 1024]⟩
abbrev S256x2 : Shape := ⟨2, ![256, 2]⟩
abbrev S256x8 : Shape := ⟨2, ![256, 8]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S8 : Shape := ⟨1, ![8]⟩
abbrev S8x1 : Shape := ⟨2, ![8, 1]⟩
abbrev S8x4096 : Shape := ⟨2, ![8, 4096]⟩
abbrev S_ : Shape := ⟨0, ![]⟩
abbrev S4096x1 : Shape := ⟨2, ![4096, 1]⟩
abbrev S6144 : Shape := ⟨1, ![6144]⟩
abbrev S1x8 : Shape := ⟨2, ![1, 8]⟩
abbrev S24 : Shape := ⟨1, ![24]⟩
abbrev S24x1 : Shape := ⟨2, ![24, 1]⟩
abbrev S24x8 : Shape := ⟨2, ![24, 8]⟩
abbrev S6144x1 : Shape := ⟨2, ![6144, 1]⟩
abbrev S1 : Shape := ⟨1, ![1]⟩
abbrev S1x1 : Shape := ⟨2, ![1, 1]⟩
abbrev S6144x1024 : Shape := ⟨2, ![6144, 1024]⟩
abbrev S8x1x2048 : Shape := ⟨3, ![8, 1, 2048]⟩
abbrev S8x1x1024 : Shape := ⟨3, ![8, 1, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1x1024 : Shape := ⟨2, ![1, 1024]⟩
abbrev S2048x2x1 : Shape := ⟨3, ![2048, 2, 1]⟩
abbrev S1x1x1 : Shape := ⟨3, ![1, 1, 1]⟩
abbrev S2048x2x1024 : Shape := ⟨3, ![2048, 2, 1024]⟩

abbrev nBuf : Space → Nat
  | .hbm => 214
  | .vmem => 25
  | .smem => 1
  | _ => 0

abbrev hbmTy0_0 (i : Nat) : BufTy := match i % 128 with
  | 0 => ⟨S2048x1024, .f32⟩
  | 1 => ⟨S1024x8, .f32⟩
  | 2 => ⟨S8x1024x2048, .f32⟩
  | 3 => ⟨S8x2048, .f32⟩
  | 4 => ⟨S8x2048x1024, .f32⟩
  | 5 => ⟨S8x1024, .f32⟩
  | 6 => ⟨S2048x2, .i32⟩
  | 7 => ⟨S2048x2, .f32⟩
  | 8 => ⟨S4096, .i32⟩
  | 9 => ⟨S4096, .f32⟩
  | 10 => ⟨S4096, .i32⟩
  | 11 => ⟨S4096, .i32⟩
  | 12 => ⟨S4096, .i32⟩
  | 13 => ⟨S1x4096, .i32⟩
  | 14 => ⟨S8, .i32⟩
  | 15 => ⟨S8x1, .i32⟩
  | 16 => ⟨S8x4096, .i32⟩
  | 17 => ⟨S8x4096, .i32⟩
  | 18 => ⟨S8x4096, .i1⟩
  | 19 => ⟨S8x4096, .i32⟩
  | 20 => ⟨S_, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S_, .i32⟩
  | 30 => ⟨S8, .i32⟩
  | 31 => ⟨S8, .i32⟩
  | 32 => ⟨S8, .i32⟩
  | 33 => ⟨S_, .i32⟩
  | 34 => ⟨S8, .i32⟩
  | 35 => ⟨S8, .i1⟩
  | 36 => ⟨S8, .i32⟩
  | 37 => ⟨S8, .i32⟩
  | 38 => ⟨S_, .i32⟩
  | 39 => ⟨S8, .i32⟩
  | 40 => ⟨S8, .i1⟩
  | 41 => ⟨S8, .i1⟩
  | 42 => ⟨S_, .i32⟩
  | 43 => ⟨S8, .i32⟩
  | 44 => ⟨S8, .i32⟩
  | 45 => ⟨S8, .i32⟩
  | 46 => ⟨S_, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S_, .i32⟩
  | 55 => ⟨S8, .i32⟩
  | 56 => ⟨S8, .i32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096, .i32⟩
  | 85 => ⟨S4096, .i32⟩
  | 86 => ⟨S4096, .i32⟩
  | 87 => ⟨S_, .i32⟩
  | 88 => ⟨S6144, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S6144, .i32⟩
  | 98 => ⟨S_, .f32⟩
  | 99 => ⟨S6144, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S4096, .f32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S6144, .f32⟩
  | 118 => ⟨S_, .i32⟩
  | 119 => ⟨S4096, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S2048x1024, .f32⟩

abbrev hbmTy0_1 (i : Nat) : BufTy := match i % 128 with
  | 0 => ⟨S4096, .i32⟩
  | 1 => ⟨S1x8, .i32⟩
  | 2 => ⟨S24, .i32⟩
  | 3 => ⟨S24x1, .i32⟩
  | 4 => ⟨S24x8, .i32⟩
  | 5 => ⟨S24x8, .i32⟩
  | 6 => ⟨S24x8, .i1⟩
  | 7 => ⟨S24x8, .i32⟩
  | 8 => ⟨S_, .i32⟩
  | 9 => ⟨S24, .i32⟩
  | 10 => ⟨S_, .i32⟩
  | 11 => ⟨S24, .i32⟩
  | 12 => ⟨S_, .i32⟩
  | 13 => ⟨S_, .i32⟩
  | 14 => ⟨S6144, .i32⟩
  | 15 => ⟨S6144, .i32⟩
  | 16 => ⟨S6144, .i32⟩
  | 17 => ⟨S_, .i32⟩
  | 18 => ⟨S6144, .i32⟩
  | 19 => ⟨S6144, .i1⟩
  | 20 => ⟨S6144, .i32⟩
  | 21 => ⟨S6144, .i32⟩
  | 22 => ⟨S_, .i32⟩
  | 23 => ⟨S6144, .i32⟩
  | 24 => ⟨S6144, .i1⟩
  | 25 => ⟨S6144, .i1⟩
  | 26 => ⟨S_, .i32⟩
  | 27 => ⟨S6144, .i32⟩
  | 28 => ⟨S6144, .i32⟩
  | 29 => ⟨S6144, .i32⟩
  | 30 => ⟨S_, .i32⟩
  | 31 => ⟨S6144, .i32⟩
  | 32 => ⟨S6144, .i1⟩
  | 33 => ⟨S_, .i32⟩
  | 34 => ⟨S6144, .i32⟩
  | 35 => ⟨S6144, .i32⟩
  | 36 => ⟨S6144, .i32⟩
  | 37 => ⟨S6144x1, .i32⟩
  | 38 => ⟨S1, .i32⟩
  | 39 => ⟨S_, .i32⟩
  | 40 => ⟨S6144x1, .i32⟩
  | 41 => ⟨S6144x1, .i1⟩
  | 42 => ⟨S1x1, .i32⟩
  | 43 => ⟨S6144x1, .i32⟩
  | 44 => ⟨S6144x1, .i1⟩
  | 45 => ⟨S6144x1, .i1⟩
  | 46 => ⟨S_, .i1⟩
  | 47 => ⟨S6144, .i1⟩
  | 48 => ⟨S6144x1024, .f32⟩
  | 49 => ⟨S6144x1024, .i1⟩
  | 50 => ⟨S_, .f32⟩
  | 51 => ⟨S6144x1024, .f32⟩
  | 52 => ⟨S6144x1024, .f32⟩
  | 53 => ⟨S8x1024x2048, .bf16⟩
  | 54 => ⟨S8x2048x1024, .bf16⟩
  | 55 => ⟨S8x1x2048, .f32⟩
  | 56 => ⟨S8x1x1024, .f32⟩
  | 57 => ⟨S6144x1, .f32⟩
  | 58 => ⟨S6144x1024, .f32⟩
  | 59 => ⟨S2048x2, .i32⟩
  | 60 => ⟨S_, .i32⟩
  | 61 => ⟨S2048x2, .i32⟩
  | 62 => ⟨S2048x2, .i1⟩
  | 63 => ⟨S_, .i32⟩
  | 64 => ⟨S2048x2, .i32⟩
  | 65 => ⟨S2048x2, .i32⟩
  | 66 => ⟨S2048x2, .i32⟩
  | 67 => ⟨S2048x2x1, .i32⟩
  | 68 => ⟨S1, .i32⟩
  | 69 => ⟨S_, .i32⟩
  | 70 => ⟨S2048x2x1, .i32⟩
  | 71 => ⟨S2048x2x1, .i1⟩
  | 72 => ⟨S1x1x1, .i32⟩
  | 73 => ⟨S2048x2x1, .i32⟩
  | 74 => ⟨S2048x2x1, .i1⟩
  | 75 => ⟨S2048x2x1, .i1⟩
  | 76 => ⟨S_, .i1⟩
  | 77 => ⟨S2048x2, .i1⟩
  | 78 => ⟨S2048x2x1024, .f32⟩
  | 79 => ⟨S2048x2x1024, .i1⟩
  | 80 => ⟨S_, .f32⟩
  | 81 => ⟨S2048x2x1024, .f32⟩
  | 82 => ⟨S2048x2x1024, .f32⟩
  | 83 => ⟨S_, .f32⟩
  | 84 => ⟨S2048x1024, .f32⟩
  | 85 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x8, .f32⟩
  | .local _ .vmem, ⟨3, _⟩ => ⟨S256x2, .i32⟩
  | .local _ .vmem, ⟨4, _⟩ => ⟨S256x2, .i32⟩
  | .local _ .vmem, ⟨5, _⟩ => ⟨S256x2, .f32⟩
  | .local _ .vmem, ⟨6, _⟩ => ⟨S256x2, .f32⟩
  | .local _ .vmem, ⟨7, _⟩ => ⟨S256x1024, .f32⟩
  | .local _ .vmem, ⟨8, _⟩ => ⟨S256x1024, .f32⟩
  | .local _ .vmem, ⟨9, _⟩ => ⟨S1x1024x2048, .bf16⟩
  | .local _ .vmem, ⟨10, _⟩ => ⟨S1x1024x2048, .bf16⟩
  | .local _ .vmem, ⟨11, _⟩ => ⟨S1x1x2048, .f32⟩
  | .local _ .vmem, ⟨12, _⟩ => ⟨S1x1x2048, .f32⟩
  | .local _ .vmem, ⟨13, _⟩ => ⟨S1x2048x1024, .bf16⟩
  | .local _ .vmem, ⟨14, _⟩ => ⟨S1x2048x1024, .bf16⟩
  | .local _ .vmem, ⟨15, _⟩ => ⟨S1x1x1024, .f32⟩
  | .local _ .vmem, ⟨16, _⟩ => ⟨S1x1x1024, .f32⟩
  | .local _ .vmem, ⟨17, _⟩ => ⟨S256x1, .f32⟩
  | .local _ .vmem, ⟨18, _⟩ => ⟨S256x1, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .smem, ⟨0, _⟩ => ⟨S24, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v16 : Ref sig .tc := ⟨.hbm, 45, rfl⟩
abbrev main_call2_call0_c : Ref sig .tc := ⟨.hbm, 46, rfl⟩
abbrev main_call2_call0_v0 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_call3_call0_c : Ref sig .tc := ⟨.hbm, 53, rfl⟩
abbrev main_call3_call0_v0 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_8 : Ref sig .tc := ⟨.hbm, 76, rfl⟩
abbrev main_v38 : Ref sig .tc := ⟨.hbm, 77, rfl⟩
abbrev main_v39 : Ref sig .tc := ⟨.hbm, 78, rfl⟩
abbrev main_c_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_10 : Ref sig .tc := ⟨.hbm, 87, rfl⟩
abbrev main_v47 : Ref sig .tc := ⟨.hbm, 88, rfl⟩
abbrev main_c_11 : Ref sig .tc := ⟨.hbm, 89, rfl⟩
abbrev main_v48 : Ref sig .tc := ⟨.hbm, 90, rfl⟩
abbrev main_v49 : Ref sig .tc := ⟨.hbm, 91, rfl⟩
abbrev main_c_12 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst : Ref sig .tc := ⟨.hbm, 98, rfl⟩
abbrev main_v55 : Ref sig .tc := ⟨.hbm, 99, rfl⟩
abbrev main_c_13 : Ref sig .tc := ⟨.hbm, 100, rfl⟩
abbrev main_v56 : Ref sig .tc := ⟨.hbm, 101, rfl⟩
abbrev main_v57 : Ref sig .tc := ⟨.hbm, 102, rfl⟩
abbrev main_c_14 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_15 : Ref sig .tc := ⟨.hbm, 109, rfl⟩
abbrev main_v63 : Ref sig .tc := ⟨.hbm, 110, rfl⟩
abbrev main_v64 : Ref sig .tc := ⟨.hbm, 111, rfl⟩
abbrev main_c_16 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_17 : Ref sig .tc := ⟨.hbm, 118, rfl⟩
abbrev main_v70 : Ref sig .tc := ⟨.hbm, 119, rfl⟩
abbrev main_c_18 : Ref sig .tc := ⟨.hbm, 120, rfl⟩
abbrev main_v71 : Ref sig .tc := ⟨.hbm, 121, rfl⟩
abbrev main_v72 : Ref sig .tc := ⟨.hbm, 122, rfl⟩
abbrev main_c_19 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_20 : Ref sig .tc := ⟨.hbm, 136, rfl⟩
abbrev main_v85 : Ref sig .tc := ⟨.hbm, 137, rfl⟩
abbrev main_c_21 : Ref sig .tc := ⟨.hbm, 138, rfl⟩
abbrev main_v86 : Ref sig .tc := ⟨.hbm, 139, rfl⟩
abbrev main_c_22 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_c : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_0 : Ref sig .tc := ⟨.hbm, 154, rfl⟩
abbrev main_call4_v12 : Ref sig .tc := ⟨.hbm, 155, rfl⟩
abbrev main_call4_v13 : Ref sig .tc := ⟨.hbm, 156, rfl⟩
abbrev main_v88 : Ref sig .tc := ⟨.hbm, 157, rfl⟩
abbrev main_call5_c : Ref sig .tc := ⟨.hbm, 158, rfl⟩
abbrev main_call5_v0 : Ref sig .tc := ⟨.hbm, 159, rfl⟩
abbrev main_call5_v1 : Ref sig .tc := ⟨.hbm, 160, rfl⟩
abbrev main_call5_c_0 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_call5_v5 : Ref sig .tc := ⟨.hbm, 165, rfl⟩
abbrev main_call5_c_1 : Ref sig .tc := ⟨.hbm, 166, rfl⟩
abbrev main_call5_c_2 : Ref sig .tc := ⟨.hbm, 167, rfl⟩
abbrev main_call5_v6 : Ref sig .tc := ⟨.hbm, 168, rfl⟩
abbrev main_call5_v7 : Ref sig .tc := ⟨.hbm, 169, rfl⟩
abbrev main_call5_v8 : Ref sig .tc := ⟨.hbm, 170, rfl⟩
abbrev main_call5_v9 : Ref sig .tc := ⟨.hbm, 171, rfl⟩
abbrev main_call5_v10 : Ref sig .tc := ⟨.hbm, 172, rfl⟩
abbrev main_call5_v11 : Ref sig .tc := ⟨.hbm, 173, rfl⟩
abbrev main_call5_c_3 : Ref sig .tc := ⟨.hbm, 174, rfl⟩
abbrev main_call5_v12 : Ref sig .tc := ⟨.hbm, 175, rfl⟩
abbrev main_call5_v13 : Ref sig .tc := ⟨.hbm, 176, rfl⟩
abbrev main_call5_v14 : Ref sig .tc := ⟨.hbm, 177, rfl⟩
abbrev main_call5_cst : Ref sig .tc := ⟨.hbm, 178, rfl⟩
abbrev main_call5_v15 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_v14 : Ref sig .tc := ⟨.hbm, 207, rfl⟩
abbrev main_call6_cst : Ref sig .tc := ⟨.hbm, 208, rfl⟩
abbrev main_call6_v15 : Ref sig .tc := ⟨.hbm, 209, rfl⟩
abbrev main_v97 : Ref sig .tc := ⟨.hbm, 210, rfl⟩
abbrev main_cst_23 : Ref sig .tc := ⟨.hbm, 211, rfl⟩
abbrev main_v98 : Ref sig .tc := ⟨.hbm, 212, rfl⟩
abbrev main_v99 : Ref sig .tc := ⟨.hbm, 213, rfl⟩
abbrev main_v87 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

abbrev pre1 : Pipeline.Prefetch sig := ⟨1, ![main_v87.idx], fun | 0 => main_v87.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S2048x1024 : Shape := ⟨2, ![2048, 1024]⟩
abbrev S1024x8 : Shape := ⟨2, ![1024, 8]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S8x2048x2048 : Shape := ⟨3, ![8, 2048, 2048]⟩
abbrev S8x1x2048 : Shape := ⟨3, ![8, 1, 2048]⟩
abbrev S8x1x1024 : Shape := ⟨3, ![8, 1, 1024]⟩
abbrev S8x2048x1 : Shape := ⟨3, ![8, 2048, 1]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x8, .f32⟩
  | .hbm, ⟨7, _⟩ => ⟨S2048x2, .f32⟩
  | .hbm, ⟨8, _⟩ => ⟨S2048x2, .i32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x2, .f32⟩
  | .hbm, ⟨16, _⟩ => ⟨S2048x2, .f32⟩
  | .hbm, ⟨17, _⟩ => ⟨S2048x2, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x2, .f32⟩
  | .hbm, ⟨22, _⟩ => ⟨S2048x2, .f32⟩
  | .hbm, ⟨23, _⟩ => ⟨S_, .f32⟩
  | .hbm, ⟨24, _⟩ => ⟨S2048x8, .f32⟩
  | .hbm, ⟨25, _⟩ => ⟨S2048, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i1⟩
  | .hbm, ⟨30, _⟩ => ⟨S_, .i32⟩
  | .hbm, ⟨31, _⟩ => ⟨S2048x1, .i32⟩
  | .hbm, ⟨32, _⟩ => ⟨S2048x1, .i32⟩
  | .hbm, ⟨33, _⟩ => ⟨S2048x1, .i32⟩
  | .hbm, ⟨34, _⟩ => ⟨S_, .i32⟩
  | .hbm, ⟨35, _⟩ => ⟨S2048x2, .i32⟩
  | .hbm, ⟨36, _⟩ => ⟨S2048x2, .i1⟩
  | .hbm, ⟨37, _⟩ => ⟨S_, .i32⟩
  | .hbm, ⟨38, _⟩ => ⟨S2048x2, .i32⟩
  | .hbm, ⟨39, _⟩ => ⟨S2048x2, .i32⟩
  | .hbm, ⟨40, _⟩ => ⟨S2048x2, .i32⟩
  | .hbm, ⟨41, _⟩ => ⟨S2048x2, .i32⟩
  | .hbm, ⟨42, _⟩ => ⟨S2048x2x1, .i32⟩
  | .hbm, ⟨43, _⟩ => ⟨S2048x2x1, .i32⟩
  | .hbm, ⟨44, _⟩ => ⟨S2048x2x2, .i32⟩
  | .hbm, ⟨45, _⟩ => ⟨S2048x8, .f32⟩
  | .hbm, ⟨46, _⟩ => ⟨S8x2048x2048, .f32⟩
  | .hbm, ⟨47, _⟩ => ⟨S8x2048x2048, .f32⟩
  | .hbm, ⟨48, _⟩ => ⟨S8x1x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x1024, .f32⟩
  | .hbm, ⟨61, _⟩ => ⟨S8x1x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048, .f32⟩
  | .hbm, ⟨66, _⟩ => ⟨S_, .f32⟩
  | .hbm, ⟨67, _⟩ => ⟨S8x2048, .f32⟩
  | .hbm, ⟨68, _⟩ => ⟨S8x2048, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S8x2048, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S_, .f32⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .i1⟩
  | .hbm, ⟨89, _⟩ => ⟨S_, .f32⟩
  | .hbm, ⟨90, _⟩ => ⟨S2048x1024, .f32⟩
  | .hbm, ⟨91, _⟩ => ⟨S2048x1024, .f32⟩
  | .hbm, ⟨92, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_call0_cst_0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_cst_1 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_call1_v0 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]
-- ==== Proof.Finite.lean ====
/- The side facts the precondition states: broadcasts of a scalar, and whole-array conjunctions. -/
module

public import proofs.«01_k».proof.Defs
public import Idealize.ShloMosaic.Lib.Decide

@[expose] public section

namespace Cert.Pre_finite.Pf

open Idealize.ShloMosaic

theorem sides : Cert.Pre_finite.Facts where
  bcast_S_S2048x1024 := by decide
  reducesTo_S2048x1024_S_d0_1 := by decide
  h_S_ := by decide
  bcast_S_S1024x8 := by decide
  reducesTo_S1024x8_S_d0_1 := by decide
  bcast_S_S8x1024x2048 := by decide
  reducesTo_S8x1024x2048_S_d0_1_2 := by decide
  bcast_S_S8x2048 := by decide
  reducesTo_S8x2048_S_d0_1 := by decide
  bcast_S_S8x2048x1024 := by decide
  reducesTo_S8x2048x1024_S_d0_1_2 := by decide
  bcast_S_S8x1024 := by decide
  reducesTo_S8x1024_S_d0_1 := by decide

end Cert.Pre_finite.Pf

end
-- ==== Proof.KB.Regs.lean ====
/- The three regions' records: what each leaves, the table the second one reads, and the proof data over them. -/
module

public import proofs.«01_k».proof.Proof.Gen.Kernel.Regions
public import proofs.«01_k».proof.Proof.KB.K0
public import proofs.«01_k».proof.Proof.KB.K1
public import proofs.«01_k».proof.Proof.KB.K2
public import proofs.«01_k».proof.Proof.KB.Table

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg HostSeg)

variable {F : FTy → Type} [FloatOps F]

local notation "𝕄" => MT nD τ sig Unit (Elt F) ℕ (UR sig nD τ) ℕ

/-! ## What each region leaves -/

/-- A valuation per core, read at the TensorCore's references. -/
abbrev rdv (W : Dev nD → Valuation τ sig (Elt F)) : (c : Dev nD) → (b : Ref sig .tc) → Buf (Elt F) ((c : Thread nD τ).loc b) := fun c b => W c (Proc.devRef .tc b)

variable (m : (ℓ : Loc nD τ sig) → Buf (Elt F) ℓ)

/-- What the router's region leaves. -/
def outsA : Outs (F := F) := fun _ r c => Pipeline.afterRegion (dat0 (rdv (V0 m)) c) (V0 m c) (Proc.devRef .tc r)

/-- The prefetched table's contents. -/
def tab : (pre1).Contents (Elt F) := fun k => V12 m (outsA m) 0 (Proc.devRef .tc (pre1.ref k))

theorem tab_ok : ok1 (tab m) := Cert.KernelPf.ok1_of_lt (tab m) fun j => by
  have h : tab m 0 = Cert.KernelPf.blockExpert (V8 m (outsA m) 0 main_v17) := Cert.KernelPf.V12_main_v87 m (outsA m) 0
  rw [h]
  exact Cert.KernelPf.blockExpert_lt _ j

/-- Every pipeline's admissible table. -/
def adm : (p : Fin 3) → (pcfgs (F := F) p).Adm := fun
  | ⟨0, _⟩ => cfg0.toPCfg_adm
  | ⟨1, _⟩ => ⟨tab m, tab_ok m⟩
  | ⟨2, _⟩ => cfg2.toPCfg_adm
  | ⟨_ + 3, h⟩ => absurd h (Nat.not_lt.2 (Nat.le_add_left _ _))

/-- What the first two regions leave. -/
def outsB : Outs (F := F) := fun J r c => match J with
  | 1 => outsA m 1 r c
  | _ => Pipeline.afterRegion (dat1 (rdv (V12 m (outsA m))) (adm m) c) (V12 m (outsA m) c) (Proc.devRef .tc r)

/-- What the three regions leave. -/
def outs : Outs (F := F) := fun J r c => match J with
  | 1 => outsA m 1 r c
  | 13 => outsB m 13 r c
  | _ => Pipeline.afterRegion (dat2 (rdv (V16 m (outsB m))) c) (V16 m (outsB m) c) (Proc.devRef .tc r)

theorem V12_outs (c : Dev nD) : V12 m (outs m) c = V12 m (outsA m) c := rfl
theorem V16_outs (c : Dev nD) : V16 m (outs m) c = V16 m (outsB m) c := rfl

/-- Every region's proof data. -/
def pdats : (p : Fin 3) → (c : Dev nD) → Dat τ (Elt F) Unit ℕ (UR sig nD τ) ℕ (Pipeline.pin (pcfgs (F := F)) (adm m) p) c := fun
  | ⟨0, _⟩ => dat0 (rdv (V0 m))
  | ⟨1, _⟩ => dat1 (rdv (V12 m (outsA m))) (adm m)
  | ⟨2, _⟩ => dat2 (rdv (V16 m (outsB m)))
  | ⟨_ + 3, h⟩ => absurd h (Nat.not_lt.2 (Nat.le_add_left _ _))

/-! ## The regions' records -/

/-- The TensorCores' cells are at the one level. -/
def lvL : GSem nD τ sig → Finset Unit := fun g => if g.1.2 = .tc then {()} else ∅
def lvv : GSem nD τ sig → Unit → ℕ := fun _ _ => 0
theorem lvL_off (g : GSem nD τ sig) (h : g.1.2 ≠ .tc) : lvL g = ∅ := if_neg h

theorem cut (p : Fin 3) : Pipeline.LevelCut (pcfgs (F := F)) (adm m) () lvL lvv p (0 : Dev nD → CellTallies nD τ sig Unit) (fun _ => 0) where
  hι _ _ _ := by unfold lvL; rw [if_pos rfl]; exact Finset.mem_singleton.mpr rfl
  hιb _ _ _ := le_rfl
  hD _ _ _ h := absurd h (lt_irrefl _)

/-- The generator register at some contents. -/
abbrev prng (c : Dev nD) : sProp 𝕄 := iprop(∃ r, prngReg c r)

/-- What rides beside the buffers between two items. -/
abbrev rest (_ : Fin 4) (c : Dev nD) : sProp 𝕄 := iprop((∃ W, owes (c : Thread nD τ) (0 : CellTallies nD τ sig Unit) W) ∗ prng c ∗ emp)

set_option backward.isDefEq.respectTransparency.types false in
def R0 : RegionSeg (pcfgs (F := F)) (adm m) (pdats m) () defs₀ Variants.none lvL lvv 0 :=
  Pipeline.RegionSeg.ofHeldIn (pcfgs (F := F)) (adm m) (pdats m) () defs₀ Variants.none lvL lvv 0 0 (Pipeline.ucRefs τ sig) prng prng launch0 rfl
    (fun c => (body_obligation0 (rdv (V0 m)) c).loose) (fun _ _ => rfl) (fun _ => rfl) (fun c => (pdats m 0 c).share_full fun _ => rfl)
    (fun _ => .rfl) (fun _ => .rfl) (fun _ => 0) (cut m 0) (fun _ => iprop(emp)) (V0 m) (fun _ _ => rfl)

set_option backward.isDefEq.respectTransparency.types false in
def R1 : RegionSeg (pcfgs (F := F)) (adm m) (pdats m) () defs₀ Variants.none lvL lvv 1 :=
  Pipeline.RegionSeg.ofHeldInT (pcfgs (F := F)) (adm m) (pdats m) () defs₀ Variants.none lvL lvv 1 0 (Pipeline.ucRefs τ sig) prng prng launch1
    (fun c => (body_obligation1 (rdv (V12 m (outsA m))) (adm m) c).loose) (fun _ _ => rfl) (fun _ => rfl) (fun c => (pdats m 1 c).share_full fun _ => rfl)
    (fun _ => .rfl) (fun _ => .rfl) (fun _ => 0) (cut m 1) (fun _ => iprop(emp)) (V12 m (outsA m)) (fun _ _ => rfl)
    (fun c k => by rw [Subsingleton.elim c 0]; rfl)

set_option backward.isDefEq.respectTransparency.types false in
def R2 : RegionSeg (pcfgs (F := F)) (adm m) (pdats m) () defs₀ Variants.none lvL lvv 2 :=
  Pipeline.RegionSeg.ofHeldIn (pcfgs (F := F)) (adm m) (pdats m) () defs₀ Variants.none lvL lvv 2 0 (Pipeline.ucRefs τ sig) prng prng launch2 rfl
    (fun c => (body_obligation2 (rdv (V16 m (outsB m))) c).loose) (fun _ _ => rfl) (fun _ => rfl) (fun c => (pdats m 2 c).share_full fun _ => rfl)
    (fun _ => .rfl) (fun _ => .rfl) (fun _ => 0) (cut m 2) (fun _ => iprop(emp)) (V16 m (outsB m)) (fun _ _ => rfl)

end Cert.Kernel.Pf
-- ==== Proof.KI.K0.lean ====
/- The router region: what each staging buffer holds after a point, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp
public import Idealize.ShloMosaic.Lib.Exec
public import Idealize.ShloMosaic.Lib.Pipeline.Kit
public import Idealize.ShloMosaic.Lib.Pipeline.RegionArraysTS

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging buffers -/

/-- A load of a whole staging buffer holding `x` reads `x`. -/
private theorem rd {s : Shape} {e : EltTy} (m : Memref sig .tc .vmem s e) (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full m.view _ inb).trans (h.read_unread x)

/-- The body reads its inputs' staging buffers, leaves them, and leaves each output's at its payload. -/
theorem run0 (c : Dev nD) (i : grid0.Coords) (arg1 : Memref sig .tc .vmem S256x1024 .f32) (harg1 : arg1.IsWhole) (arg2 : Memref sig .tc .vmem S1024x8 .f32) (harg2 : arg2.IsWhole) (arg3 : Memref sig .tc .vmem S256x2 .i32) (harg3 : arg3.IsWhole) (arg4 : Memref sig .tc .vmem S256x2 .f32) (harg4 : arg4.IsWhole)
    (x0 : Vec F S256x1024 .f32) (x1 : Vec F S1024x8 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay6 x0 x1) ∗ owns (c : Thread nD τ) arg4 fullShare (k0_pay7 x0 x1)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_full]
    exact congr (congrArg k0_pay6 (rd arg1 harg1 x0 _)) (rd arg2 harg2 x1 _)
  · iexists _; isplitr
    swap; · iexact H3
    ipureintro
    rw [View.read_writes_full]
    exact congr (congrArg k0_pay7 (rd arg1 harg1 x0 _)) (rd arg2 harg2 x1 _)

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: inputs' buffers at their blocks, outputs' at the payloads of those blocks, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (iblk0 V c 0 t) (iblk0 V c 1 t)
    | ⟨3, _⟩ => k0_pay7 (iblk0 V c 0 t) (iblk0 V c 1 t)
  Φ _ := iprop((Pipeline.scopedRest (Ix := Unit) (Name := ℕ) (U := UR sig nD τ) (Lvl := ℕ) (Val := Elt F) spec0 c ∗ ∃ r, prngReg c r))
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := rfl
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem after0_1 (c : Dev nD) (t : Fin cfg0.N) : (dat0 V c).after 1 t = iblk0 V c 1 t := rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem after0_2 (c : Dev nD) (t : Fin cfg0.N) : (dat0 V c).after 2 t = k0_pay6 (iblk0 V c 0 t) (iblk0 V c 1 t) := rfl
theorem after0_3 (c : Dev nD) (t : Fin cfg0.N) : (dat0 V c).after 3 t = k0_pay7 (iblk0 V c 0 t) (iblk0 V c 1 t) := rfl

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t))

/-- The body at any point: the run on the blocks; the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c (grid0.coords t) _ _ _ _ _ _ _ _ (iblk0 V c 0 t) (iblk0 V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Pf

end
-- ==== Proof.KI.K1.lean ====
/- The experts' region: what each staging buffer holds after a point, and the body's triple, at any admissible table. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp
public import Idealize.ShloMosaic.Lib.Exec
public import Idealize.ShloMosaic.Lib.Pipeline.Kit
public import Idealize.ShloMosaic.Lib.Pipeline.RegionArraysTS

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging buffers -/

/-- A load of a whole staging buffer holding `x` reads `x`. -/
private theorem rd {s : Shape} {e : EltTy} (m : Memref sig .tc .vmem s e) (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full m.view _ inb).trans (h.read_unread x)

/-- The body reads its inputs' staging buffers, leaves them, and leaves each output's at its payload. -/
theorem run1 (c : Dev nD) (i : grid1.Coords) (arg1 : Memref sig .tc .smem S24 .i32) (harg1 : arg1.IsWhole) (arg2 : Memref sig .tc .vmem S256x1024 .f32) (harg2 : arg2.IsWhole) (arg3 : Memref sig .tc .vmem S1x1024x2048 .bf16) (harg3 : arg3.IsWhole) (arg4 : Memref sig .tc .vmem S1x1x2048 .f32) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S256x1 .f32) (harg7 : arg7.IsWhole) (arg8 : Memref sig .tc .vmem S256x1024 .f32) (harg8 : arg8.IsWhole)
    (x0 : Vec F S256x1024 .f32) (x1 : Vec F S1x1024x2048 .bf16) (x2 : Vec F S1x1x2048 .f32) (x3 : Vec F S1x2048x1024 .bf16) (x4 : Vec F S1x1x1024 .f32) (x5 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 (k1_pay2 x0 x1 x2 x3 x4) x5)) -∗ K ⟨⟩))
      ⊢ wp frame (wpE (defs₀ (F := F)) Variants.none c none) E (cc1__group_body i arg1 harg1 arg2 harg2 arg3 harg3 arg4 harg4 arg5 harg5 arg6 harg6 arg7 harg7 arg8 harg8) K := by
  simp only [cc1__group_body_eq_skeleton]; unfold cc1__group_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  · iexists _; isplitr
    swap; · iexact H6
    ipureintro
    rw [View.read_writes_full]
    exact congr (congrArg k1_pay1 (congr (congr (congr (congr (congrArg k1_pay2 (rd arg2 harg2 x0 _)) (rd arg3 harg3 x1 _)) (rd arg4 harg4 x2 _)) (rd arg5 harg5 x3 _)) (rd arg6 harg6 x4 _))) (rd arg7 harg7 x5 _)

variable (V : (c : Dev nD) → (b : Ref sig .tc) → Buf (Elt F) ((c : Thread nD τ).loc b))

/-- Window `w`'s block at point `t`, read off its array as the region finds it. -/
def iblk1 (a : (pcfg1 (F := F)).Adm) (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The prefetched table, held on core `c` at the contents `a`. -/
abbrev tbl1 (a : (p : Fin 3) → (pcfgs (F := F) p).Adm) (c : Dev nD) : sProp 𝕄 := Pipeline.tablesAt (pcfgs (F := F)) a 1 c

/-- The proof data: inputs' buffers at their blocks, outputs' at the payloads of those blocks, nothing owed. -/
def dat1 (a : (p : Fin 3) → (pcfgs (F := F) p).Adm) (c : Dev nD) : Dat τ (Elt F) Unit ℕ (UR sig nD τ) ℕ (cfg1 (a 1)) c where
  A w := V c (Pipeline.arrRef spec1 w)
  after w t := match w with
    | ⟨0, _⟩ => iblk1 V (a 1) c 0 t
    | ⟨1, _⟩ => iblk1 V (a 1) c 1 t
    | ⟨2, _⟩ => iblk1 V (a 1) c 2 t
    | ⟨3, _⟩ => iblk1 V (a 1) c 3 t
    | ⟨4, _⟩ => iblk1 V (a 1) c 4 t
    | ⟨5, _⟩ => iblk1 V (a 1) c 5 t
    | ⟨6, _⟩ => k1_pay1 (k1_pay2 (iblk1 V (a 1) c 0 t) (iblk1 V (a 1) c 1 t) (iblk1 V (a 1) c 2 t) (iblk1 V (a 1) c 3 t) (iblk1 V (a 1) c 4 t)) (iblk1 V (a 1) c 5 t)
  Φ _ := iprop((Pipeline.scopedRest (Ix := Unit) (Name := ℕ) (U := UR sig nD τ) (Lvl := ℕ) (Val := Elt F) spec1 c ∗ ∃ r, prngReg c r) ∗ tbl1 a c)
  q _ := fullShare
  owed _ := 0

theorem A_eq1 (a : (p : Fin 3) → (pcfgs (F := F) p).Adm) (c : Dev nD) (w : Fin (cfg1 (a 1)).W) : (dat1 V a c).A w = V c (Pipeline.arrRef spec1 w) := by dsimp only [dat1]
theorem after1_0 (a : (p : Fin 3) → (pcfgs (F := F) p).Adm) (c : Dev nD) (t : Fin (cfg1 (a 1)).N) : (dat1 V a c).after 0 t = iblk1 V (a 1) c 0 t := rfl
theorem before1_0 (a : (p : Fin 3) → (pcfgs (F := F) p).Adm) (c : Dev nD) (t : Fin (cfg1 (a 1)).N) (d) : (dat1 V a c).before 0 t d = iblk1 V (a 1) c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem after1_1 (a : (p : Fin 3) → (pcfgs (F := F) p).Adm) (c : Dev nD) (t : Fin (cfg1 (a 1)).N) : (dat1 V a c).after 1 t = iblk1 V (a 1) c 1 t := rfl
theorem before1_1 (a : (p : Fin 3) → (pcfgs (F := F) p).Adm) (c : Dev nD) (t : Fin (cfg1 (a 1)).N) (d) : (dat1 V a c).before 1 t d = iblk1 V (a 1) c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem after1_2 (a : (p : Fin 3) → (pcfgs (F := F) p).Adm) (c : Dev nD) (t : Fin (cfg1 (a 1)).N) : (dat1 V a c).after 2 t = iblk1 V (a 1) c 2 t := rfl
theorem before1_2 (a : (p : Fin 3) → (pcfgs (F := F) p).Adm) (c : Dev nD) (t : Fin (cfg1 (a 1)).N) (d) : (dat1 V a c).before 2 t d = iblk1 V (a 1) c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem after1_3 (a : (p : Fin 3) → (pcfgs (F := F) p).Adm) (c : Dev nD) (t : Fin (cfg1 (a 1)).N) : (dat1 V a c).after 3 t = iblk1 V (a 1) c 3 t := rfl
theorem before1_3 (a : (p : Fin 3) → (pcfgs (F := F) p).Adm) (c : Dev nD) (t : Fin (cfg1 (a 1)).N) (d) : (dat1 V a c).before 3 t d = iblk1 V (a 1) c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem after1_4 (a : (p : Fin 3) → (pcfgs (F := F) p).Adm) (c : Dev nD) (t : Fin (cfg1 (a 1)).N) : (dat1 V a c).after 4 t = iblk1 V (a 1) c 4 t := rfl
theorem before1_4 (a : (p : Fin 3) → (pcfgs (F := F) p).Adm) (c : Dev nD) (t : Fin (cfg1 (a 1)).N) (d) : (dat1 V a c).before 4 t d = iblk1 V (a 1) c 4 t :=
  ((dat1 V a c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem after1_5 (a : (p : Fin 3) → (pcfgs (F := F) p).Adm) (c : Dev nD) (t : Fin (cfg1 (a 1)).N) : (dat1 V a c).after 5 t = iblk1 V (a 1) c 5 t := rfl
theorem before1_5 (a : (p : Fin 3) → (pcfgs (F := F) p).Adm) (c : Dev nD) (t : Fin (cfg1 (a 1)).N) (d) : (dat1 V a c).before 5 t d = iblk1 V (a 1) c 5 t :=
  ((dat1 V a c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem after1_6 (a : (p : Fin 3) → (pcfgs (F := F) p).Adm) (c : Dev nD) (t : Fin (cfg1 (a 1)).N) : (dat1 V a c).after 6 t = k1_pay1 (k1_pay2 (iblk1 V (a 1) c 0 t) (iblk1 V (a 1) c 1 t) (iblk1 V (a 1) c 2 t) (iblk1 V (a 1) c 3 t) (iblk1 V (a 1) c 4 t)) (iblk1 V (a 1) c 5 t) := rfl

/-- The body as the pipeline calls it at point `t`. -/
abbrev bodyAt1 (a : (p : Fin 3) → (pcfgs (F := F) p).Adm) (t : Fin (cfg1 (a 1)).N) : Prog (TpuEff nD τ sig (Elt F) Λ₀ .tc) PUnit :=
  cc1__group_body (grid1.coords t) (Memref.whole main_v87) (Memref.isWhole_whole _) (spec1_0.stage ((cfg1 (a 1)).slots t 0)) (hstage1_0 (((cfg1 (a 1)).slots t 0).cast nbuf1_0)) (spec1_1.stage ((cfg1 (a 1)).slots t 1)) (hstage1_1 (((cfg1 (a 1)).slots t 1).cast nbuf1_1)) (spec1_2.stage ((cfg1 (a 1)).slots t 2)) (hstage1_2 (((cfg1 (a 1)).slots t 2).cast nbuf1_2)) (spec1_3.stage ((cfg1 (a 1)).slots t 3)) (hstage1_3 (((cfg1 (a 1)).slots t 3).cast nbuf1_3)) (spec1_4.stage ((cfg1 (a 1)).slots t 4)) (hstage1_4 (((cfg1 (a 1)).slots t 4).cast nbuf1_4)) (spec1_5.stage ((cfg1 (a 1)).slots t 5)) (hstage1_5 (((cfg1 (a 1)).slots t 5).cast nbuf1_5)) (spec1_6.stage ((cfg1 (a 1)).slots t 6)) (hstage1_6 (((cfg1 (a 1)).slots t 6).cast nbuf1_6))

def bodyPre1 (a : (p : Fin 3) → (pcfgs (F := F) p).Adm) (c : Dev nD) (t : Fin (cfg1 (a 1)).N) : sProp 𝕄 :=
  iprop((dat1 V a c).Φ t.castSucc ∗ (dat1 V a c).owesAt () t.castSucc
    ∗ (∃ d, owns (c : Thread nD τ) (spec1_0.stage ((cfg1 (a 1)).slots t 0)) fullShare ((dat1 V a c).before 0 t d))
    ∗ (∃ d, owns (c : Thread nD τ) (spec1_1.stage ((cfg1 (a 1)).slots t 1)) fullShare ((dat1 V a c).before 1 t d))
    ∗ (∃ d, owns (c : Thread nD τ) (spec1_2.stage ((cfg1 (a 1)).slots t 2)) fullShare ((dat1 V a c).before 2 t d))
    ∗ (∃ d, owns (c : Thread nD τ) (spec1_3.stage ((cfg1 (a 1)).slots t 3)) fullShare ((dat1 V a c).before 3 t d))
    ∗ (∃ d, owns (c : Thread nD τ) (spec1_4.stage ((cfg1 (a 1)).slots t 4)) fullShare ((dat1 V a c).before 4 t d))
    ∗ (∃ d, owns (c : Thread nD τ) (spec1_5.stage ((cfg1 (a 1)).slots t 5)) fullShare ((dat1 V a c).before 5 t d))
    ∗ (∃ d, owns (c : Thread nD τ) (spec1_6.stage ((cfg1 (a 1)).slots t 6)) fullShare ((dat1 V a c).before 6 t d)))

def bodyPost1 (a : (p : Fin 3) → (pcfgs (F := F) p).Adm) (c : Dev nD) (t : Fin (cfg1 (a 1)).N) : sProp 𝕄 :=
  iprop((dat1 V a c).Φ t.succ ∗ (dat1 V a c).owesAt () t.succ
    ∗ owns (c : Thread nD τ) (spec1_0.stage ((cfg1 (a 1)).slots t 0)) fullShare ((dat1 V a c).after 0 t)
    ∗ owns (c : Thread nD τ) (spec1_1.stage ((cfg1 (a 1)).slots t 1)) fullShare ((dat1 V a c).after 1 t)
    ∗ owns (c : Thread nD τ) (spec1_2.stage ((cfg1 (a 1)).slots t 2)) fullShare ((dat1 V a c).after 2 t)
    ∗ owns (c : Thread nD τ) (spec1_3.stage ((cfg1 (a 1)).slots t 3)) fullShare ((dat1 V a c).after 3 t)
    ∗ owns (c : Thread nD τ) (spec1_4.stage ((cfg1 (a 1)).slots t 4)) fullShare ((dat1 V a c).after 4 t)
    ∗ owns (c : Thread nD τ) (spec1_5.stage ((cfg1 (a 1)).slots t 5)) fullShare ((dat1 V a c).after 5 t)
    ∗ owns (c : Thread nD τ) (spec1_6.stage ((cfg1 (a 1)).slots t 6)) fullShare ((dat1 V a c).after 6 t))

/-- The body at any point: the run on the blocks; the invariant and what the core owes pass through. -/
theorem sound_body1 (a : (p : Fin 3) → (pcfgs (F := F) p).Adm) (c : Dev nD) (t : Fin (cfg1 (a 1)).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2, before1_3, before1_4, before1_5]
  rw [show (dat1 V a c).Φ t.succ = (dat1 V a c).Φ t.castSucc from rfl,
    show (dat1 V a c).owesAt () t.succ = (dat1 V a c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run1 c (grid1.coords t) _ _ _ _ _ _ _ _ _ _ _ _ _ _ _ _ (iblk1 V (a 1) c 0 t) (iblk1 V (a 1) c 1 t) (iblk1 V (a 1) c 2 t) (iblk1 V (a 1) c 3 t) (iblk1 V (a 1) c 4 t) (iblk1 V (a 1) c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (a : (p : Fin 3) → (pcfgs (F := F) p).Adm) (t : Fin (cfg1 (a 1)).N) :
    defs₀ (F := F) .tc (cfg1 (a 1)).body ((cfg1 (a 1)).bodyArgs t ((cfg1 (a 1)).slots t)) = bodyAt1 a t := by
  unfold defs₀; rw [Defs.onTc_tc]

theorem body_obligation1 (a : (p : Fin 3) → (pcfgs (F := F) p).Adm) (c : Dev nD) : BodyObligation (dat1 V a c) (defs₀ (F := F)) Variants.none () Set.univ := fun t => by
  rw [bigSep_W1, bigSep_W1, defs₀_row1]
  exact triple_restated (sound_body1 V a c t) rfl .rfl fun _ => .rfl

end Cert.KernelIdeal.Pf

end
-- ==== Proof.KI.K2.lean ====
/- The last region: what each staging buffer holds after a point, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp
public import Idealize.ShloMosaic.Lib.Exec
public import Idealize.ShloMosaic.Lib.Pipeline.Kit
public import Idealize.ShloMosaic.Lib.Pipeline.RegionArraysTS

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging buffers -/

/-- A load of a whole staging buffer holding `x` reads `x`. -/
private theorem rd {s : Shape} {e : EltTy} (m : Memref sig .tc .vmem s e) (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full m.view _ inb).trans (h.read_unread x)

/-- The body reads its inputs' staging buffers, leaves them, and leaves each output's at its payload. -/
theorem run2 (c : Dev nD) (i : grid2.Coords) (arg1 : Memref sig .tc .vmem S256x1024 .f32) (harg1 : arg1.IsWhole) (arg2 : Memref sig .tc .vmem S256x1024 .f32) (harg2 : arg2.IsWhole)
    (x0 : Vec F S256x1024 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k2_pay1 x0)) -∗ K ⟨⟩))
      ⊢ wp frame (wpE (defs₀ (F := F)) Variants.none c none) E (cc2__log_body i arg1 harg1 arg2 harg2) K := by
  simp only [cc2__log_body_eq_skeleton]; unfold cc2__log_body_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  · iexists _; isplitr
    swap; · iexact H1
    ipureintro
    rw [View.read_writes_full]
    exact congrArg k2_pay1 (rd arg1 harg1 x0 _)

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: inputs' buffers at their blocks, outputs' at the payloads of those blocks, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay1 (iblk2 V c 0 t)
  Φ _ := iprop((Pipeline.scopedRest (Ix := Unit) (Name := ℕ) (U := UR sig nD τ) (Lvl := ℕ) (Val := Elt F) spec2 c ∗ ∃ r, prngReg c r))
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := rfl
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem after2_1 (c : Dev nD) (t : Fin cfg2.N) : (dat2 V c).after 1 t = k2_pay1 (iblk2 V c 0 t) := rfl

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t))

/-- The body at any point: the run on the blocks; the invariant and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (run2 c (grid2.coords t) _ _ _ _ (iblk2 V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 V c) (defs₀ (F := F)) Variants.none () Set.univ := fun t => by
  rw [bigSep_W2, bigSep_W2, defs₀_row2]
  exact triple_restated (sound_body2 V c t) rfl .rfl fun _ => .rfl

end Cert.KernelIdeal.Pf

end
-- ==== Proof.KI.Table.lean ====
/- The table of the experts' region: each entry names one of the eight experts, whatever the block ends are, so the region's table is admissible. -/
module

public import proofs.«01_k».proof.Proof.Gen.KernelIdeal.Launch
public import proofs.«01_k».proof.Proof.Gen.KernelIdeal.Regions
public import Idealize.ShloMosaic.Lib.StableHlo.RunRead
public import Idealize.ShloMosaic.Lib.StableHlo.ReadAt
public import Idealize.ShloMosaic.Lib.Routing.Ops
public import Idealize.ShloMosaic.Lib.Routing.OpsSet

@[expose] public section

set_option maxRecDepth 16384

noncomputable section

namespace Cert.KernelIdealPf

open Cert.KernelIdeal hiding ix1
open Cert.KernelIdeal.Gen
open Idealize.ShloMosaic hiding ix1
open Idealize.ShloMosaic.TcCoe Idealize.ShloMosaic.Tactic
open Idealize.ShloMosaic.ValueIdx

/-- The expert of each block, from the experts' block ends: how many of the ends lie at or below the block's number, at most seven. -/
def blockExpert (ends : IVec S8 32) : IVec S24 32 :=
  minsi (Host.reduce IntOp.addi (extui 32 (cmpi .sle (broadcastInDim S24x8 ![0, 1] bcast_S1x8_S24x8_0_1 (broadcastInDim S1x8 ![1] bcast_S8_S1x8_1 ends))
      (broadcastInDim S24x8 ![0, 1] bcast_S24x1_S24x8_0_1 (broadcastInDim S24x1 ![0] bcast_S24_S24x1_0 (iotaInDim S24 32 0)))) natLt_1_32) (constantI S_ 32 0#32) reducesTo_S24x8_S24_d1 h_S_)
    (broadcastInDim S24 ![] bcast_S_S24 (constantI S_ 32 7#32))

/-- A block's expert, as a count of the ends. -/
theorem blockExpert_count (ends : IVec S8 32) (p : Fin 24) (Q : ℕ → Prop) [DecidablePred Q]
    (hQ : ∀ q : Fin 8, IntOp.cmpi .sle (ends (ix1 q)) (BitVec.ofNat 32 p.val) = 1#1 ↔ Q q.val) :
    blockExpert ends (ix1 p) = IntOp.minsi (BitVec.ofNat 32 (Nat.count Q 8)) 7#32 := by
  refine congr (congrArg IntOp.minsi ?_) ?_
  · refine Routing.reduce_count (n := 24) (m := 8) (by decide) _ natLt_1_32 reducesTo_S24x8_S24_d1 h_S_ p Q fun q => ?_
    have e1 := Routing.bcCols (n := 24) (m := 8) bcast_S8_S1x8_1 bcast_S1x8_S24x8_0_1 ends p q
    have e2 := Routing.bcRows (n := 24) (m := 8) bcast_S24_S24x1_0 bcast_S24x1_S24x8_0_1 (iotaInDim S24 32 0) p q
    show IntOp.cmpi .sle _ _ = 1#1 ↔ _
    rw [e1, e2]
    exact hQ q
  · rfl

/-- Each entry names an expert. -/
theorem blockExpert_lt (ends : IVec S8 32) (j : S24.Idx) : (blockExpert ends j).toNat < 8 := by
  obtain ⟨p, rfl⟩ : ∃ p : Fin 24, j = ix1 p := ⟨j 0, ValueIdx.eq_ix1 j⟩
  obtain ⟨n, hle, hn⟩ : ∃ n, n ≤ 8 ∧ blockExpert ends (ix1 p) = IntOp.minsi (BitVec.ofNat 32 n) 7#32 := by
    classical
    exact ⟨_, Nat.count_le _, blockExpert_count ends p (fun q => ∃ h : q < 8, IntOp.cmpi .sle (ends (ix1 ⟨q, h⟩)) (BitVec.ofNat 32 p.val) = 1#1) fun q => ⟨fun h => ⟨q.isLt, h⟩, fun ⟨_, h⟩ => h⟩⟩
  rw [hn]
  clear hn
  revert n
  decide

variable {F : FTy → Type} [FloatOps F]
variable (m : (ℓ : Loc nD τ sig) → Buf (Elt F) ℓ) (outs : Outs (F := F))

/-- The table as the experts' region finds it. -/
theorem V12_main_v87 (c : Dev nD) : V12 m outs c main_v87 = blockExpert (V8 m outs c main_v17) :=
  ((V12_of m outs c main_v87 (by decide)).trans <| (V11_of m outs c main_v87 (by decide)).trans (V10_of m outs c main_v87 (by decide))).trans <| by
    unfold V9 hostOps1_7
    after_reads_simp
    rfl

/-- A table all of whose entries name an expert is admissible. -/
theorem ok1_of_lt (pf : pre1.Contents (Elt F)) (h : ∀ j : S24.Idx, (pf 0 j : BitVec 32).toNat < 8) : ok1 pf := by
  have h1 : ∀ i, ∃ j : S24.Idx, cc1_transform_1 k1_off1_inb numel1_S1 pf i = ![(pf 0 j : BitVec 32).toNat, 0, 0] := fun i => ⟨_, rfl⟩
  have h2 : ∀ i, ∃ j : S24.Idx, cc1_transform_2 k1_off1_inb numel1_S1 pf i = ![(pf 0 j : BitVec 32).toNat, 0, 0] := fun i => ⟨_, rfl⟩
  have h3 : ∀ i, ∃ j : S24.Idx, cc1_transform_3 k1_off1_inb numel1_S1 pf i = ![(pf 0 j : BitVec 32).toNat, 0, 0] := fun i => ⟨_, rfl⟩
  have h4 : ∀ i, ∃ j : S24.Idx, cc1_transform_4 k1_off1_inb numel1_S1 pf i = ![(pf 0 j : BitVec 32).toNat, 0, 0] := fun i => ⟨_, rfl⟩
  refine ⟨fun i => ?_, fun i => ?_, fun i => ?_, fun i => ?_⟩
  · obtain ⟨j, hj⟩ := h1 i
    have hl := h j
    refine ⟨fun a => ?_, .inr (.inr ⟨by decide, rfl, ?_, rfl⟩)⟩
    · rw [hj]; generalize (pf 0 j : BitVec 32).toNat = n at hl ⊢; fin_cases a <;> simp <;> omega
    · show cc1_transform_1 k1_off1_inb numel1_S1 pf i 1 * 1024 = 0
      rw [hj]; rfl
  · obtain ⟨j, hj⟩ := h2 i
    have hl := h j
    refine ⟨fun a => ?_, .inl rfl⟩
    rw [hj]; generalize (pf 0 j : BitVec 32).toNat = n at hl ⊢; fin_cases a <;> simp <;> omega
  · obtain ⟨j, hj⟩ := h3 i
    have hl := h j
    refine ⟨fun a => ?_, .inr (.inr ⟨by decide, rfl, ?_, rfl⟩)⟩
    · rw [hj]; generalize (pf 0 j : BitVec 32).toNat = n at hl ⊢; fin_cases a <;> simp <;> omega
    · show cc1_transform_3 k1_off1_inb numel1_S1 pf i 1 * 2048 = 0
      rw [hj]; rfl
  · obtain ⟨j, hj⟩ := h4 i
    have hl := h j
    refine ⟨fun a => ?_, .inl rfl⟩
    rw [hj]; generalize (pf 0 j : BitVec 32).toNat = n at hl ⊢; fin_cases a <;> simp <;> omega

end Cert.KernelIdealPf
-- ==== Proof.KI.Regs.lean ====
/- The three regions' records: what each leaves, the table the second one reads, and the proof data over them. -/
module

public import proofs.«01_k».proof.Proof.Gen.KernelIdeal.Regions
public import proofs.«01_k».proof.Proof.KI.K0
public import proofs.«01_k».proof.Proof.KI.K1
public import proofs.«01_k».proof.Proof.KI.K2
public import proofs.«01_k».proof.Proof.KI.Table

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg HostSeg)

variable {F : FTy → Type} [FloatOps F]

local notation "𝕄" => MT nD τ sig Unit (Elt F) ℕ (UR sig nD τ) ℕ

/-! ## What each region leaves -/

/-- A valuation per core, read at the TensorCore's references. -/
abbrev rdv (W : Dev nD → Valuation τ sig (Elt F)) : (c : Dev nD) → (b : Ref sig .tc) → Buf (Elt F) ((c : Thread nD τ).loc b) := fun c b => W c (Proc.devRef .tc b)

variable (m : (ℓ : Loc nD τ sig) → Buf (Elt F) ℓ)

/-- What the router's region leaves. -/
def outsA : Outs (F := F) := fun _ r c => Pipeline.afterRegion (dat0 (rdv (V0 m)) c) (V0 m c) (Proc.devRef .tc r)

/-- The prefetched table's contents. -/
def tab : (pre1).Contents (Elt F) := fun k => V12 m (outsA m) 0 (Proc.devRef .tc (pre1.ref k))

theorem tab_ok : ok1 (tab m) := Cert.KernelIdealPf.ok1_of_lt (tab m) fun j => by
  have h : tab m 0 = Cert.KernelIdealPf.blockExpert (V8 m (outsA m) 0 main_v17) := Cert.KernelIdealPf.V12_main_v87 m (outsA m) 0
  rw [h]
  exact Cert.KernelIdealPf.blockExpert_lt _ j

/-- Every pipeline's admissible table. -/
def adm : (p : Fin 3) → (pcfgs (F := F) p).Adm := fun
  | ⟨0, _⟩ => cfg0.toPCfg_adm
  | ⟨1, _⟩ => ⟨tab m, tab_ok m⟩
  | ⟨2, _⟩ => cfg2.toPCfg_adm
  | ⟨_ + 3, h⟩ => absurd h (Nat.not_lt.2 (Nat.le_add_left _ _))

/-- What the first two regions leave. -/
def outsB : Outs (F := F) := fun J r c => match J with
  | 1 => outsA m 1 r c
  | _ => Pipeline.afterRegion (dat1 (rdv (V12 m (outsA m))) (adm m) c) (V12 m (outsA m) c) (Proc.devRef .tc r)

/-- What the three regions leave. -/
def outs : Outs (F := F) := fun J r c => match J with
  | 1 => outsA m 1 r c
  | 13 => outsB m 13 r c
  | _ => Pipeline.afterRegion (dat2 (rdv (V16 m (outsB m))) c) (V16 m (outsB m) c) (Proc.devRef .tc r)

theorem V12_outs (c : Dev nD) : V12 m (outs m) c = V12 m (outsA m) c := rfl
theorem V16_outs (c : Dev nD) : V16 m (outs m) c = V16 m (outsB m) c := rfl

/-- Every region's proof data. -/
def pdats : (p : Fin 3) → (c : Dev nD) → Dat τ (Elt F) Unit ℕ (UR sig nD τ) ℕ (Pipeline.pin (pcfgs (F := F)) (adm m) p) c := fun
  | ⟨0, _⟩ => dat0 (rdv (V0 m))
  | ⟨1, _⟩ => dat1 (rdv (V12 m (outsA m))) (adm m)
  | ⟨2, _⟩ => dat2 (rdv (V16 m (outsB m)))
  | ⟨_ + 3, h⟩ => absurd h (Nat.not_lt.2 (Nat.le_add_left _ _))

/-! ## The regions' records -/

/-- The TensorCores' cells are at the one level. -/
def lvL : GSem nD τ sig → Finset Unit := fun g => if g.1.2 = .tc then {()} else ∅
def lvv : GSem nD τ sig → Unit → ℕ := fun _ _ => 0
theorem lvL_off (g : GSem nD τ sig) (h : g.1.2 ≠ .tc) : lvL g = ∅ := if_neg h

theorem cut (p : Fin 3) : Pipeline.LevelCut (pcfgs (F := F)) (adm m) () lvL lvv p (0 : Dev nD → CellTallies nD τ sig Unit) (fun _ => 0) where
  hι _ _ _ := by unfold lvL; rw [if_pos rfl]; exact Finset.mem_singleton.mpr rfl
  hιb _ _ _ := le_rfl
  hD _ _ _ h := absurd h (lt_irrefl _)

/-- The generator register at some contents. -/
abbrev prng (c : Dev nD) : sProp 𝕄 := iprop(∃ r, prngReg c r)

/-- What rides beside the buffers between two items. -/
abbrev rest (_ : Fin 4) (c : Dev nD) : sProp 𝕄 := iprop((∃ W, owes (c : Thread nD τ) (0 : CellTallies nD τ sig Unit) W) ∗ prng c ∗ emp)

set_option backward.isDefEq.respectTransparency.types false in
def R0 : RegionSeg (pcfgs (F := F)) (adm m) (pdats m) () defs₀ Variants.none lvL lvv 0 :=
  Pipeline.RegionSeg.ofHeldIn (pcfgs (F := F)) (adm m) (pdats m) () defs₀ Variants.none lvL lvv 0 0 (Pipeline.ucRefs τ sig) prng prng launch0 rfl
    (fun c => (body_obligation0 (rdv (V0 m)) c).loose) (fun _ _ => rfl) (fun _ => rfl) (fun c => (pdats m 0 c).share_full fun _ => rfl)
    (fun _ => .rfl) (fun _ => .rfl) (fun _ => 0) (cut m 0) (fun _ => iprop(emp)) (V0 m) (fun _ _ => rfl)

set_option backward.isDefEq.respectTransparency.types false in
def R1 : RegionSeg (pcfgs (F := F)) (adm m) (pdats m) () defs₀ Variants.none lvL lvv 1 :=
  Pipeline.RegionSeg.ofHeldInT (pcfgs (F := F)) (adm m) (pdats m) () defs₀ Variants.none lvL lvv 1 0 (Pipeline.ucRefs τ sig) prng prng launch1
    (fun c => (body_obligation1 (rdv (V12 m (outsA m))) (adm m) c).loose) (fun _ _ => rfl) (fun _ => rfl) (fun c => (pdats m 1 c).share_full fun _ => rfl)
    (fun _ => .rfl) (fun _ => .rfl) (fun _ => 0) (cut m 1) (fun _ => iprop(emp)) (V12 m (outsA m)) (fun _ _ => rfl)
    (fun c k => by rw [Subsingleton.elim c 0]; rfl)

set_option backward.isDefEq.respectTransparency.types false in
def R2 : RegionSeg (pcfgs (F := F)) (adm m) (pdats m) () defs₀ Variants.none lvL lvv 2 :=
  Pipeline.RegionSeg.ofHeldIn (pcfgs (F := F)) (adm m) (pdats m) () defs₀ Variants.none lvL lvv 2 0 (Pipeline.ucRefs τ sig) prng prng launch2 rfl
    (fun c => (body_obligation2 (rdv (V16 m (outsB m))) c).loose) (fun _ _ => rfl) (fun _ => rfl) (fun c => (pdats m 2 c).share_full fun _ => rfl)
    (fun _ => .rfl) (fun _ => .rfl) (fun _ => 0) (cut m 2) (fun _ => iprop(emp)) (V16 m (outsB m)) (fun _ _ => rfl)

end Cert.KernelIdeal.Pf
-- ==== Proof.KI.Run.lean ====
/- The whole program's run: the three regions' records between the host stretches, the table the second region reads, and what every execution leaves. -/
module

public import proofs.«01_k».proof.Proof.KI.Regs

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg HostSeg)

variable {F : FTy → Type} [FloatOps F]

local notation "𝕄" => MT nD τ sig Unit (Elt F) ℕ (UR sig nD τ) ℕ

variable (m : (ℓ : Loc nD τ sig) → Buf (Elt F) ℓ)

/-! ## The links -/

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem sub2 : Pipeline.arrRefs (τ := τ) spec2 ⊆ Pipeline.ucRefs τ sig := Pipeline.arrRefs_sub_ucRefs spec2 (by decide)
theorem subT : Pipeline.tblRefs (τ := τ) pre1 ⊆ Pipeline.ucRefs τ sig := Pipeline.tblRefs_sub_ucRefs pre1 (preFacts1.unscoped)

/-- Two valuations that agree at every unscoped reference of the TensorCore hold the same buffers. -/
theorem held_eq (c : Dev nD) {V V' : Valuation τ sig (Elt F)} (h : ∀ r : Ref sig .tc, V (Proc.devRef .tc r) = V' (Proc.devRef .tc r)) :
    (StableHlo.held (c : Thread nD τ) (Pipeline.ucRefs τ sig) V : sProp 𝕄) = StableHlo.held (c : Thread nD τ) (Pipeline.ucRefs τ sig) V' :=
  StableHlo.held_congr (c : Thread nD τ) fun b hb => by
    obtain ⟨r, -, rfl⟩ := Finset.mem_map.mp (Finset.mem_filter.mp hb).1
    exact h r

theorem after_R0 (c : Dev nD) (r : Ref sig .tc) : Pipeline.afterRegion (pdats m 0 c) (V0 m c) (Proc.devRef .tc r) = V1 m (outs m) c (Proc.devRef .tc r) := by
  by_cases h1 : r = main_v0_1
  · subst h1; exact (show V1 m (outs m) c (Proc.devRef .tc main_v0_1) = outs m 1 main_v0_1 c by simp only [V1, Function.update_self]).symm
  by_cases h0 : r = main_v0_0
  · subst h0; exact (show V1 m (outs m) c (Proc.devRef .tc main_v0_0) = outs m 1 main_v0_0 c by
      rw [V1, Function.update_of_ne (StableHlo.devRef_ne_of_ne h1), Function.update_self]).symm
  rw [V1, Function.update_of_ne (StableHlo.devRef_ne_of_ne h1), Function.update_of_ne (StableHlo.devRef_ne_of_ne h0)]
  exact Pipeline.afterRegion_keeps (pdats m 0 c) (V0 m c) winFacts0.arr_inj (fun _ => rfl) r fun
    | 0 => fun _ => rfl | 1 => fun _ => rfl | 2 => fun h => absurd h.symm h0 | 3 => fun h => absurd h.symm h1 | ⟨_ + 4, h⟩ => absurd h (Nat.not_lt.2 (Nat.le_add_left _ _))

theorem after_R1 (c : Dev nD) (r : Ref sig .tc) : Pipeline.afterRegion (pdats m 1 c) (V12 m (outsA m) c) (Proc.devRef .tc r) = V13 m (outs m) c (Proc.devRef .tc r) := by
  by_cases h1 : r = main_v95
  · subst h1; exact (show V13 m (outs m) c (Proc.devRef .tc main_v95) = outs m 13 main_v95 c by simp only [V13, Function.update_self]).symm
  rw [V13, Function.update_of_ne (StableHlo.devRef_ne_of_ne h1)]
  exact Pipeline.afterRegion_keeps (pdats m 1 c) (V12 m (outsA m) c) winFacts1.arr_inj (fun _ => rfl) r fun
    | 0 => fun _ => rfl | 1 => fun _ => rfl | 2 => fun _ => rfl | 3 => fun _ => rfl | 4 => fun _ => rfl | 5 => fun _ => rfl | 6 => fun h => absurd h.symm h1
    | ⟨_ + 7, h⟩ => absurd h (Nat.not_lt.2 (Nat.le_add_left _ _))

theorem after_R2 (c : Dev nD) (r : Ref sig .tc) : Pipeline.afterRegion (pdats m 2 c) (V16 m (outsB m) c) (Proc.devRef .tc r) = V17 m (outs m) c (Proc.devRef .tc r) := by
  by_cases h1 : r = main_v99
  · subst h1; exact (show V17 m (outs m) c (Proc.devRef .tc main_v99) = outs m 17 main_v99 c by simp only [V17, Function.update_self]).symm
  rw [V17, Function.update_of_ne (StableHlo.devRef_ne_of_ne h1)]
  exact Pipeline.afterRegion_keeps (pdats m 2 c) (V16 m (outsB m) c) winFacts2.arr_inj (fun _ => rfl) r fun
    | 0 => fun _ => rfl | 1 => fun h => absurd h.symm h1 | ⟨_ + 2, h⟩ => absurd h (Nat.not_lt.2 (Nat.le_add_left _ _))

set_option backward.isDefEq.respectTransparency.types false in
theorem pre0 (c : Dev nD) : iprop(StableHlo.held (c : Thread nD τ) (Pipeline.ucRefs τ sig) (V0 m c) ∗ rest 0 c) ⊢ (R0 m).pre c := by
  delta R0
  refine BI.Entails.trans ?_ (Pipeline.RegionSeg.ofHeldIn_pre ?_ c)
  · exact BI.Entails.refl _
  · exact sub0
set_option backward.isDefEq.respectTransparency.types false in
theorem post0 (c : Dev nD) : (R0 m).post c ⊢ iprop(StableHlo.held (c : Thread nD τ) (Pipeline.ucRefs τ sig) (V1 m (outs m) c) ∗ rest 1 c) := by
  delta R0
  refine (Pipeline.RegionSeg.ofHeldIn_post ?_ c).trans ?_
  · exact sub0
  rw [held_eq c (after_R0 m c)]
  exact .rfl
set_option backward.isDefEq.respectTransparency.types false in
theorem pre1' (c : Dev nD) : iprop(StableHlo.held (c : Thread nD τ) (Pipeline.ucRefs τ sig) (V12 m (outs m) c) ∗ rest 1 c) ⊢ (R1 m).pre c := by
  delta R1
  refine BI.Entails.trans ?_ (Pipeline.RegionSeg.ofHeldInT_pre ?_ ?_ c)
  · exact BI.Entails.refl _
  · exact sub1
  · exact subT
set_option backward.isDefEq.respectTransparency.types false in
theorem post1 (c : Dev nD) : (R1 m).post c ⊢ iprop(StableHlo.held (c : Thread nD τ) (Pipeline.ucRefs τ sig) (V13 m (outs m) c) ∗ rest 2 c) := by
  delta R1
  refine (Pipeline.RegionSeg.ofHeldInT_post ?_ ?_ c).trans ?_
  · exact sub1
  · exact subT
  rw [held_eq c (after_R1 m c)]
  exact .rfl
set_option backward.isDefEq.respectTransparency.types false in
theorem pre2 (c : Dev nD) : iprop(StableHlo.held (c : Thread nD τ) (Pipeline.ucRefs τ sig) (V16 m (outs m) c) ∗ rest 2 c) ⊢ (R2 m).pre c := by
  delta R2
  refine BI.Entails.trans ?_ (Pipeline.RegionSeg.ofHeldIn_pre ?_ c)
  · exact BI.Entails.refl _
  · exact sub2
set_option backward.isDefEq.respectTransparency.types false in
theorem post2 (c : Dev nD) : (R2 m).post c ⊢ iprop(StableHlo.held (c : Thread nD τ) (Pipeline.ucRefs τ sig) (V17 m (outs m) c) ∗ rest 3 c) := by
  delta R2
  refine (Pipeline.RegionSeg.ofHeldIn_post ?_ c).trans ?_
  · exact sub2
  rw [held_eq c (after_R2 m c)]
  exact .rfl

/-! ## The run -/

set_option backward.isDefEq.respectTransparency.types false in
/-- Every execution ends, with the result as the third region leaves it, the arguments as launched and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v99) = outs m 17 main_v99 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adm m) (pdats m) () (cellOf_inj (adm m)) emb₁ defs₀ Variants.none lvL lvv m ρ main
    (segs m (outs m) Variants.none lvL lvv rest () (adm m) (pdats m) (R0 m) (R1 m) (R2 m))
    (fun c Q => by
      rewrite [main_chain c, Seg.run_eq_chain,
        show (segs m (outs m) Variants.none lvL lvv rest () (adm m) (pdats m) (R0 m) (R1 m) (R2 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()),
          StableHlo.seq hostOps2,
          StableHlo.seq hostOps2_1,
          StableHlo.seq hostOps2_2,
          Prog.lift (.customCall (Pipeline.entry 2) ()) ] from rfl]
      dsimp (config := { failIfUnchanged := false }) only
      exact .rfl)
    (fun c => by simp only [segs, Seg.pipes_host, Seg.pipes_region, Seg.pipes_nil]; decide) 0 lvL_off (fun _ => iprop(emp))
    (initOf (Pipeline.cells (Pipeline.pin (pcfgs (F := F)) (adm m)) (cellOf_inj (adm m))) (Pipeline.launchToks (Pipeline.pin (pcfgs (F := F)) (adm m)) (cellOf_inj (adm m))))
    ?_
    (T₀ := fun c => iprop(StableHlo.held (c : Thread nD τ) (Pipeline.ucRefs τ sig) (V0 m c) ∗ rest 0 c))
    (Tₙ := fun c => StableHlo.held (c : Thread nD τ) (Pipeline.ucRefs τ sig) (V17 m (outs m) c))
    (hch := fun c => ⟨pre0 m c, post0 m c, .rfl, .rfl, .rfl, .rfl, .rfl, .rfl, .rfl, .rfl, .rfl, .rfl, pre1' m c, post1 m c, .rfl, .rfl, pre2 m c,
      (post2 m c).trans (sep_mono .rfl (show rest 3 c ⊢ (iprop(∃ W, owes (c : Thread nD τ) (0 : CellTallies nD τ sig Unit) W) : sProp 𝕄) from by
        iintro ⟨HO, -⟩; iexact HO))⟩)
    (hinit := ?_)
    (QY := fun c s => s.mem ((c.tc : Thread nD τ).loc main_v99) = outs m 17 main_v99 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
      iexact Hu
    iapply (show (BI.emp : sProp 𝕄) ⊢ bigSep Finset.univ (fun _ : Dev nD => (BI.emp : sProp 𝕄)) from by rw [BI.bigSep_emp_const])
    iempintro
  · refine Pipeline.initEach lvL lvv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = V17 m (outs m) c r := fun r hs => h (Proc.devRef .tc r) (Pipeline.devRef_mem_ucRefs hs)
      exact ⟨(hr main_v99 rfl).trans (by simp only [V17, Function.update_self]), (hr main_arg0 rfl).trans (V17_main_arg0 m (outs m) c), (hr main_arg1 rfl).trans (V17_main_arg1 m (outs m) c),
        (hr main_arg2 rfl).trans (V17_main_arg2 m (outs m) c), (hr main_arg3 rfl).trans (V17_main_arg3 m (outs m) c),
        (hr main_arg4 rfl).trans (V17_main_arg4 m (outs m) c), (hr main_arg5 rfl).trans (V17_main_arg5 m (outs m) c)⟩
    · iexact HSI

end Cert.KernelIdeal.Pf
-- ==== Proof.Frames.lean ====
/- The three programs run, leave their arguments and leave every counter at zero. -/
module

public import proofs.«01_k».proof.Defs
public import proofs.«01_k».proof.Proof.KB.Run
public import proofs.«01_k».proof.Proof.KI.Run
public import proofs.«01_k».proof.Proof.Gen.ReferenceIdeal
public import proofs.«01_k».proof.Proof.Gen.ReferenceIdeal.Run

@[expose] public section

noncomputable section

namespace Cert.Frames

open Idealize.ShloMosaic Idealize.SL.Sem

theorem kernel : Cert.quiescent_Kernel := by
  intro m g _
  exact (θ_run Cert.Kernel.defs _ _).mono (fun r h => ⟨fun c => (h.1 c).2, h.2⟩) (Cert.Kernel.Pf.run (F := Bits) m g)

theorem kernelIdeal : Cert.quiescent_KernelIdeal := by
  intro m g _
  exact (θ_run Cert.KernelIdeal.defs _ _).mono (fun r h => ⟨fun c => (h.1 c).2, h.2⟩) (Cert.KernelIdeal.Pf.run (F := Ideal) m g)

theorem referenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

theorem kernelIdeal_pre [Cert.Pre_finite.Facts] : Cert.quiescent_KernelIdeal_pre_finite := by
  intro m g _
  exact (θ_run Cert.KernelIdeal.defs _ _).mono (fun r h => ⟨fun c => (h.1 c).2, h.2⟩) (Cert.KernelIdeal.Pf.run (F := Ideal) m g)

theorem referenceIdeal_pre [Cert.Pre_finite.Facts] : Cert.quiescent_ReferenceIdeal_pre_finite := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Val.Spec.lean ====
/- What one token's row computes, over the extended reals: the two picks, their gates, one expert's softmax row, and the algebra of the two programs' spellings at real values. -/
module

public import Idealize.ShloMosaic.PureOps.Ideal.Laws
public import Idealize.ShloMosaic.PureOps.ShapeOps
public import Idealize.ShloMosaic.Lib.SortFacts

@[expose] public section

noncomputable section

namespace Cert.Val

open Idealize.ShloMosaic

/-- The value is a real number. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.erf {x : EReal} (hx : Rl x) : Rl (Ideal.erf x) := by
  obtain ⟨a, rfl⟩ := hx; exact ⟨_, Ideal.erf_coe a⟩
theorem Rl.one : Rl 1 := ⟨1, rfl⟩
theorem Rl.zero : Rl 0 := ⟨0, rfl⟩
theorem Rl.sum {ι : Type} (s : Finset ι) (f : ι → EReal) (h : ∀ i ∈ s, Rl (f i)) : Rl (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold by an idempotent choice is the value that wins against every other and against the start. -/
theorem fold_eq {ι α : Type} [Fintype ι] [DecidableEq ι] (op : α → α → α) [Std.Commutative op] [Std.Associative op] (a : α) (f : ι → α) (j : ι)
    (ha : op (f j) a = f j) (h : ∀ e, op (f j) (f e) = f j) : Finset.univ.fold op a f = f j := by
  have key : ∀ s : Finset ι, op (f j) (s.fold op a f) = f j := fun s => by
    induction s using Finset.induction_on with
    | empty => rw [Finset.fold_empty]; exact ha
    | insert e s he ih => rw [Finset.fold_insert he, ← Std.Associative.assoc (op := op), h e, ih]
  rw [← Finset.insert_erase (Finset.mem_univ j), Finset.fold_insert (Finset.notMem_erase j _)]
  exact key _

/-- The greatest of a row. -/
def mx {n : ℕ} (l : Fin n → EReal) : EReal := Finset.univ.fold max ⊥ l

theorem mx_eq {n : ℕ} (l : Fin n → EReal) (j : Fin n) (h : ∀ e, l e ≤ l j) : mx l = l j :=
  fold_eq max ⊥ l j (max_eq_left bot_le) fun e => max_eq_left (h e)

theorem exists_mx {n : ℕ} (l : Fin (n + 1) → EReal) : ∃ j, mx l = l j := by
  obtain ⟨j, -, hj⟩ := Finset.exists_max_image (Finset.univ : Finset (Fin (n + 1))) l ⟨0, Finset.mem_univ _⟩
  exact ⟨j, mx_eq l j fun e => hj e (Finset.mem_univ e)⟩

theorem Rl.mx {n : ℕ} (l : Fin (n + 1) → EReal) (h : ∀ e, Rl (l e)) : Rl (mx l) := by
  obtain ⟨j, hj⟩ := exists_mx l; rw [hj]; exact h j

/-- The number of the first greatest entry of a row of eight. -/
def am (l : Fin 8 → EReal) : BitVec 32 :=
  Finset.univ.fold IntOp.minsi 2147483647#32 fun e : Fin 8 => if l e = mx l then BitVec.ofNat 32 e.val else 8#32

theorem am_eq (l : Fin 8 → EReal) (j : Fin 8) (h : ∀ e, l e ≤ l j) (hf : ∀ e, e < j → l e < l j) : am l = BitVec.ofNat 32 j.val := by
  have hm := mx_eq l j h
  have hj : (if l j = mx l then BitVec.ofNat 32 j.val else 8#32) = BitVec.ofNat 32 j.val := if_pos hm.symm
  refine (fold_eq IntOp.minsi 2147483647#32 (fun e : Fin 8 => if l e = mx l then BitVec.ofNat 32 e.val else 8#32) j ?_ fun e => ?_).trans hj
  · show IntOp.minsi (if l j = mx l then BitVec.ofNat 32 j.val else 8#32) 2147483647#32 = _
    rw [hj]
    exact (by decide : ∀ j : Fin 8, IntOp.minsi (BitVec.ofNat 32 j.val) 2147483647#32 = BitVec.ofNat 32 j.val) j
  · show IntOp.minsi (if l j = mx l then BitVec.ofNat 32 j.val else 8#32) (if l e = mx l then BitVec.ofNat 32 e.val else 8#32) = if l j = mx l then BitVec.ofNat 32 j.val else 8#32
    rw [hj]
    split
    · next he =>
      have hle : j ≤ e := not_lt.mp fun hlt => absurd (he.trans hm) (hf e hlt).ne
      exact (by decide : ∀ j e : Fin 8, j ≤ e → IntOp.minsi (BitVec.ofNat 32 j.val) (BitVec.ofNat 32 e.val) = BitVec.ofNat 32 j.val) j e hle
    · exact (by decide : ∀ j : Fin 8, IntOp.minsi (BitVec.ofNat 32 j.val) 8#32 = BitVec.ofNat 32 j.val) j

/-- The row with the entry that a word names struck out. -/
def msk (l : Fin 8 → EReal) (w : BitVec 32) (e : Fin 8) : EReal := if BitVec.ofNat 32 e.val = w then ⊥ else l e

/-- The order of a row's entries: greater first, equal ones by position. -/
def Pre {n : ℕ} (l : Fin n → EReal) (b c : Fin n) : Prop := l c < l b ∨ (l c = l b ∧ b < c)

theorem Pre.trans {n : ℕ} {l : Fin n → EReal} {a b c : Fin n} (h1 : Pre l a b) (h2 : Pre l b c) : Pre l a c := by
  rcases h1 with h1 | ⟨h1, h1'⟩ <;> rcases h2 with h2 | ⟨h2, h2'⟩
  · exact .inl (h2.trans h1)
  · exact .inl (h2 ▸ h1)
  · exact .inl (h1 ▸ h2)
  · exact .inr ⟨h2.trans h1, h1'.trans h2'⟩

theorem pairwise_insert {n : ℕ} (l : Fin n → EReal) (R : Fin n → Fin n → Bool) (hR : ∀ a b, R a b = true ↔ l b < l a) (a : Fin n) (m : List (Fin n))
    (ha : ∀ b ∈ m, a < b) (hm : m.Pairwise (Pre l)) : (insertBefore R a m).Pairwise (Pre l) := by
  induction m with
  | nil => exact List.pairwise_singleton _ _
  | cons b m ih =>
    obtain ⟨hb, hm'⟩ := List.pairwise_cons.mp hm
    unfold insertBefore
    split
    · next h =>
      refine List.pairwise_cons.mpr ⟨fun x hx => ?_, ih (fun b' h' => ha b' (List.mem_cons_of_mem _ h')) hm'⟩
      rcases List.mem_cons.mp ((perm_insertBefore R a m).mem_iff.mp hx) with rfl | hx
      · exact .inl ((hR _ _).mp h)
      · exact hb x hx
    · next h =>
      have hab : Pre l a b := by
        rcases lt_or_eq_of_le (not_lt.mp fun hlt => h ((hR b a).mpr hlt)) with h1 | h1
        · exact .inl h1
        · exact .inr ⟨h1, ha b (List.mem_cons_self)⟩
      refine List.pairwise_cons.mpr ⟨fun x hx => ?_, hm⟩
      rcases List.mem_cons.mp hx with rfl | hx
      · exact hab
      · exact hab.trans (hb x hx)

theorem pairwise_sort {n : ℕ} (l : Fin n → EReal) (R : Fin n → Fin n → Bool) (hR : ∀ a b, R a b = true ↔ l b < l a) (m : List (Fin n))
    (hm : m.Pairwise (· < ·)) : (stableSort R m).Pairwise (Pre l) := by
  induction m with
  | nil => exact List.Pairwise.nil
  | cons a m ih =>
    obtain ⟨ha, hm'⟩ := List.pairwise_cons.mp hm
    unfold stableSort
    exact pairwise_insert l R hR a _ (fun b hb => ha b ((perm_stableSort R m).mem_iff.mp hb)) (ih hm')

theorem sorted_pre {n : ℕ} (l : Fin n → EReal) (R : Fin n → Fin n → Bool) (hR : ∀ a b, R a b = true ↔ l b < l a) (i j : Fin n) (hij : i < j) :
    Pre l (sortedFrom R i) (sortedFrom R j) := by
  have hp := pairwise_sort l R hR (List.finRange n) (List.pairwise_lt_finRange n)
  exact List.pairwise_iff_get.mp hp _ _ hij

/-- The two picks by sorting are the first greatest and the first greatest of the rest. -/
theorem picks (l : Fin 8 → EReal) (hl : ∀ e, Rl (l e)) (R : Fin 8 → Fin 8 → Bool) (hR : ∀ a b, R a b = true ↔ l b < l a) :
    am l = BitVec.ofNat 32 (sortedFrom R 0).val ∧ mx l = l (sortedFrom R 0)
      ∧ am (msk l (am l)) = BitVec.ofNat 32 (sortedFrom R 1).val ∧ mx (msk l (am l)) = l (sortedFrom R 1)
      ∧ sortedFrom R 0 ≠ sortedFrom R 1 ∧ l (sortedFrom R 1) ≤ l (sortedFrom R 0) := by
  have hinj := sortedFrom_injective R
  have hsurj := sortedFrom_surjective R
  have hne : sortedFrom R 0 ≠ sortedFrom R 1 := fun h => absurd (hinj h) (by decide)
  have h0 : ∀ e, e ≠ sortedFrom R 0 → Pre l (sortedFrom R 0) e := fun e he => by
    obtain ⟨k, rfl⟩ := hsurj e
    exact sorted_pre l R hR 0 k (Fin.pos_iff_ne_zero.mpr fun hk => he (congrArg _ hk))
  have h1 : ∀ e, e ≠ sortedFrom R 0 → e ≠ sortedFrom R 1 → Pre l (sortedFrom R 1) e := fun e he he' => by
    obtain ⟨k, rfl⟩ := hsurj e
    refine sorted_pre l R hR 1 k ?_
    have a : k ≠ 0 := fun hk => he (congrArg _ hk)
    have b : k ≠ 1 := fun hk => he' (congrArg _ hk)
    exact (by decide : ∀ k : Fin 8, k ≠ 0 → k ≠ 1 → 1 < k) k a b
  have le_of : ∀ {a b : Fin 8}, Pre l a b → l b ≤ l a := fun h => h.elim (fun h => h.le) fun h => h.1.le
  have g0 : ∀ e, l e ≤ l (sortedFrom R 0) := fun e => by
    by_cases he : e = sortedFrom R 0
    · rw [he]
    · exact le_of (h0 e he)
  have f0 : ∀ e, e < sortedFrom R 0 → l e < l (sortedFrom R 0) := fun e he => by
    rcases h0 e he.ne with h | ⟨-, h⟩
    · exact h
    · exact absurd h (not_lt.mpr he.le)
  have ea := am_eq l _ g0 f0
  have ww : ∀ a b : Fin 8, BitVec.ofNat 32 a.val = BitVec.ofNat 32 b.val → a = b := by decide
  have hm0 : msk l (am l) (sortedFrom R 0) = ⊥ := by unfold msk; rw [ea, if_pos rfl]
  have hmk : ∀ e, e ≠ sortedFrom R 0 → msk l (am l) e = l e := fun e he => by
    unfold msk; rw [ea, if_neg fun h => he (ww _ _ h)]
  have hbot : ∀ e, ⊥ < l e := fun e => by obtain ⟨r, hr⟩ := hl e; rw [hr]; exact EReal.bot_lt_coe r
  have g1 : ∀ e, msk l (am l) e ≤ msk l (am l) (sortedFrom R 1) := fun e => by
    rw [hmk _ hne.symm]
    by_cases he : e = sortedFrom R 0
    · rw [he, hm0]; exact bot_le
    · rw [hmk e he]
      by_cases he' : e = sortedFrom R 1
      · rw [he']
      · exact le_of (h1 e he he')
  have f1 : ∀ e, e < sortedFrom R 1 → msk l (am l) e < msk l (am l) (sortedFrom R 1) := fun e hlt => by
    rw [hmk _ hne.symm]
    by_cases he : e = sortedFrom R 0
    · rw [he, hm0]; exact hbot _
    · rw [hmk e he]
      rcases h1 e he hlt.ne with h | ⟨-, h⟩
      · exact h
      · exact absurd h (not_lt.mpr hlt.le)
  exact ⟨ea, mx_eq l _ g0, am_eq _ _ g1 f1, (mx_eq _ _ g1).trans (hmk _ hne.symm), hne, g0 _⟩

/-- The two gates from the two greatest values. -/
def gt (u v : EReal) : EReal := Ideal.div 1 (1 + Ideal.exp (v - u))

theorem coe_div (a b : ℝ) (hb : b ≠ 0) : Ideal.div (a : EReal) (b : EReal) = ((a / b : ℝ) : EReal) := by
  rw [Ideal.div_coe hb, ← EReal.coe_mul, mul_one_div]

/-- The gate of the softmax over the two greatest values: the greatest value is `u`. -/
theorem gate_eq (u v w : EReal) (hu : Rl u) (hv : Rl v) (hw : w = u ∨ w = v) :
    Ideal.div (Ideal.exp (w - u)) (Ideal.exp (u - u) + Ideal.exp (v - u)) = if w = u then gt u v else gt v u := by
  obtain ⟨a, rfl⟩ := hu; obtain ⟨b, rfl⟩ := hv
  unfold gt
  have e1 : (1 : EReal) = ((1 : ℝ) : EReal) := rfl
  have hp : ∀ x y : ℝ, 1 + Real.exp (x - y) ≠ 0 := fun x y => by positivity
  have hq : Real.exp (a - a) + Real.exp (b - a) ≠ 0 := by positivity
  rw [e1]
  simp only [← EReal.coe_sub, Ideal.exp_coe, ← EReal.coe_add]
  rw [coe_div _ _ (hp _ _), coe_div _ _ (hp _ _)]
  rcases hw with rfl | rfl
  · rw [if_pos rfl, ← EReal.coe_sub, Ideal.exp_coe, coe_div _ _ hq, sub_self, Real.exp_zero]
  · rw [← EReal.coe_sub, Ideal.exp_coe, coe_div _ _ hq]
    split
    · next h => rw [EReal.coe_eq_coe_iff.mp h, sub_self, Real.exp_zero]
    · congr 1
      rw [div_eq_div_iff hq (hp _ _), sub_self, Real.exp_zero, mul_add, one_mul, ← Real.exp_add]
      simp [add_comm]

/-- One expert's output row before the softmax. -/
def dense (hf c : EReal) (x : Fin 1024 → EReal) (w1 : Fin 1024 → Fin 2048 → EReal) (b1 : Fin 2048 → EReal) (w2 : Fin 2048 → Fin 1024 → EReal) (b2 : Fin 1024 → EReal)
    (o : Fin 1024) : EReal :=
  ∑ h, hf * (∑ d, x d * w1 d h + b1 h) * (1 + Ideal.erf ((∑ d, x d * w1 d h + b1 h) * c)) * w2 h o + b2 o

theorem Rl.dense {hf c : EReal} (hh : Rl hf) (hc : Rl c) {x : Fin 1024 → EReal} {w1 : Fin 1024 → Fin 2048 → EReal} {b1 : Fin 2048 → EReal} {w2 : Fin 2048 → Fin 1024 → EReal}
    {b2 : Fin 1024 → EReal} (hx : ∀ d, Rl (x d)) (h1 : ∀ d h, Rl (w1 d h)) (hb1 : ∀ h, Rl (b1 h)) (h2 : ∀ h o, Rl (w2 h o)) (hb2 : ∀ o, Rl (b2 o)) (o : Fin 1024) :
    Rl (dense hf c x w1 b1 w2 b2 o) := by
  have hid : ∀ h, Rl (∑ d, x d * w1 d h + b1 h) := fun h => (Rl.sum _ _ fun d _ => (hx d).mul (h1 d h)).add (hb1 h)
  exact (Rl.sum _ _ fun h _ => ((hh.mul (hid h)).mul (Rl.one.add ((hid h).mul hc).erf)).mul (h2 h o)).add (hb2 o)

/-- The softmax of a row. -/
def soft {n : ℕ} (v : Fin n → EReal) (o : Fin n) : EReal := Ideal.div (Ideal.exp (v o - mx v)) (∑ k, Ideal.exp (v k - mx v))

/-- The exponential of the log-softmax is the softmax. -/
theorem soft_eq {n : ℕ} (v : Fin (n + 1) → EReal) (hv : ∀ o, Rl (v o)) (o : Fin (n + 1)) :
    Ideal.exp (v o - mx v - Ideal.log (∑ k, Ideal.exp (v k - mx v))) = soft v o := by
  unfold soft
  obtain ⟨M, hM⟩ := Rl.mx v hv
  choose r hr using hv
  rw [hM]
  have hs : (∑ k, Ideal.exp (v k - (M : EReal))) = ((∑ k, Real.exp (r k - M) : ℝ) : EReal) := by
    rw [coe_sum]
    exact Finset.sum_congr rfl fun k _ => by rw [hr k, ← EReal.coe_sub, Ideal.exp_coe]
  have hpos : 0 < ∑ k, Real.exp (r k - M) := Finset.sum_pos (fun k _ => Real.exp_pos _) ⟨0, Finset.mem_univ _⟩
  rw [hs, hr o, ← EReal.coe_sub, Ideal.log_coe, if_neg (not_le.mpr hpos), ← EReal.coe_sub, Ideal.exp_coe, Ideal.exp_coe, coe_div _ _ hpos.ne', Real.exp_sub, Real.exp_log hpos]

/-- A sum in which two terms alone are not zero. -/
theorem sum_two (f : Fin 8 → EReal) (i j : Fin 8) (hij : i ≠ j) (h : ∀ e, e ≠ i → e ≠ j → f e = 0) : ∑ e, f e = f i + f j := by
  rw [← Finset.sum_subset (Finset.subset_univ {i, j}) fun e _ he => h e (fun h => he (by simp [h])) (fun h => he (by simp [h])), Finset.sum_pair hij]

end Cert.Val
-- ==== Proof.Val.Consts.lean ====
/- The programs' constants over the extended reals. -/
module

public import proofs.«01_k».proof.Proof.Val.Spec
public import Idealize.ShloMosaic.Lib.IdealHost

@[expose] public section

noncomputable section

namespace Cert.Val

open Idealize.ShloMosaic

theorem ninf : Ideal.ofBits .f32 0xFF800000#32 = ⊥ := by
  simp [Ideal.ofBits, Ideal.ieee]

/-- A word that is not an infinity's reads a real number. -/
theorem Rl.word (b : BitVec 32) (h : (b.extractLsb' 23 8).toNat ≠ 255) : Rl (Ideal.ofBits .f32 b) := by
  show Rl (Ideal.ieee 8 23 b)
  unfold Ideal.ieee
  dsimp only
  rw [if_neg (by simpa using h)]
  split <;> exact ⟨_, rfl⟩

theorem Rl.half : Rl (Ideal.ofBits .f32 0x3F000000#32) := Rl.word _ (by decide)
theorem Rl.rsqrt2 : Rl (Ideal.ofBits .f32 0x3F3504F3#32) := Rl.word _ (by decide)

/-- An expert's row: the dense layers and the softmax. -/
def expert (xr : Fin 1024 → EReal) (w1 : Fin 1024 → Fin 2048 → EReal) (b1 : Fin 2048 → EReal) (w2 : Fin 2048 → Fin 1024 → EReal) (b2 : Fin 1024 → EReal) : Fin 1024 → EReal :=
  soft (dense (Ideal.ofBits .f32 0x3F000000#32) (Ideal.ofBits .f32 0x3F3504F3#32) xr w1 b1 w2 b2)

/-- Zero becomes the given small constant; then the logarithm. -/
def logEps (c : EReal) : EReal := Ideal.log (if c = 0 then Ideal.ofBits .f32 0x25800000#32 else c)

end Cert.Val
-- ==== Proof.Val.Pay.lean ====
/- What each body writes into its block, read at an index over the extended reals. -/
module

public import proofs.«01_k».proof.Proof.Val.Consts
public import proofs.«01_k».proof.Proof.Gen.KernelIdeal.Skeleton
public import Idealize.ShloMosaic.Lib.Pointwise
public import Idealize.ShloMosaic.Lib.Tactic

@[expose] public section

set_option maxRecDepth 16384

noncomputable section

namespace Cert.KernelIdealPf

open Cert.KernelIdeal hiding ix1
open Cert.KernelIdeal.Gen
open Idealize.ShloMosaic Idealize.ShloMosaic.TcCoe Idealize.ShloMosaic.Tactic
open Cert.Val (mx am msk gt dense soft logEps)

/-- One row's scores. -/
def lgB (x : Vec Ideal S256x1024 .f32) (w : Vec Ideal S1024x8 .f32) (r : Fin 256) (e : Fin 8) : EReal := ∑ k, x (ix2 r k) * w (ix2 k e)

variable (x : Vec Ideal S256x1024 .f32) (w : Vec Ideal S1024x8 .f32)

theorem pay1_at (r : Fin 256) (e : Fin 8) : k0_pay1 x w (ix2 r e) = lgB x w r e := by
  pointwise [k0_pay1]; rfl

theorem pay2_at (r : Fin 256) : k0_pay2 x w (ix2 r 0) = mx (lgB x w r) := by
  pointwise [k0_pay2]
  simp only [pay1_at, Val.ninf]
  rfl

theorem pay3_at (r : Fin 256) : k0_pay3 x w (ix2 r 0) = am (lgB x w r) := by
  pointwise [k0_pay3]
  simp only [pay1_at, pay2_at]
  rfl

theorem pay4_at (r : Fin 256) (e : Fin 8) : k0_pay4 x w (ix2 r e) = msk (lgB x w r) (am (lgB x w r)) e := by
  pointwise [k0_pay4]
  simp only [pay1_at, pay3_at, Val.ninf]
  unfold msk
  split
  · next h => rw [h, show ∀ w : BitVec 32, IntOp.cmpi .eq w w = 1#1 from fun w => by simp [IntOp.cmpi]]; rfl
  · next h => rw [show IntOp.cmpi .eq (BitVec.ofNat 32 e.val) (am (lgB x w r)) = 0#1 from by
      show BitVec.ofBool (_ == _) = _; rw [beq_eq_false_iff_ne.mpr h]; rfl]; rfl

theorem pay5_at (r : Fin 256) : k0_pay5 x w (ix2 r 0) = mx (msk (lgB x w r) (am (lgB x w r))) := by
  pointwise [k0_pay5]
  simp only [pay4_at, Val.ninf]
  rfl

theorem pay6_at (r : Fin 256) (k : Fin 2) : k0_pay6 x w (ix2 r k) = if k = 0 then am (lgB x w r) else am (msk (lgB x w r) (am (lgB x w r))) := by
  pointwise [k0_pay6]
  simp only [pay4_at, pay5_at]
  fin_vals k with hk
  · simp only [hk, Nat.reduceLT, ↓reduceDIte, show k = 0 from Fin.ext hk, ↓reduceIte]; exact pay3_at x w r
  · simp only [hk, Nat.lt_irrefl, ↓reduceDIte, show k ≠ 0 from fun h => by rw [h] at hk; exact absurd hk (by decide), ↓reduceIte]; rfl

theorem pay7_at (r : Fin 256) (k : Fin 2) : k0_pay7 x w (ix2 r k)
    = if k = 0 then gt (mx (lgB x w r)) (mx (msk (lgB x w r) (am (lgB x w r)))) else gt (mx (msk (lgB x w r) (am (lgB x w r)))) (mx (lgB x w r)) := by
  pointwise [k0_pay7]
  fin_vals k with hk
  · simp only [hk, Nat.reduceLT, ↓reduceDIte, show k = 0 from Fin.ext hk, ↓reduceIte, ← pay2_at, ← pay5_at]; rfl
  · simp only [hk, Nat.lt_irrefl, ↓reduceDIte, show k ≠ 0 from fun h => by rw [h] at hk; exact absurd hk (by decide), ↓reduceIte, ← pay2_at, ← pay5_at]; rfl

theorem z_at (xg : Vec Ideal S256x1024 .f32) (w1 : Vec Ideal S1x1024x2048 .bf16) (b1 : Vec Ideal S1x1x2048 .f32) (w2 : Vec Ideal S1x2048x1024 .bf16) (b2 : Vec Ideal S1x1x1024 .f32)
    (g : Vec Ideal S256x1 .f32) (r : Fin 256) (o : Fin 1024) :
    k1_pay1 (k1_pay2 xg w1 b1 w2 b2) g (ix2 r o)
      = soft (dense (Ideal.ofBits .f32 0x3F000000#32) (Ideal.ofBits .f32 0x3F3504F3#32) (fun d => xg (ix2 r d)) (fun d h => w1 (ix3 0 d h)) (fun h => b1 (ix3 0 0 h))
          (fun h o => w2 (ix3 0 h o)) (fun o => b2 (ix3 0 0 o))) o * g (ix2 r 0) := by
  pointwise [k1_pay1, k1_pay2]
  simp only [Val.ninf]
  rfl

theorem fin_at (c : Vec Ideal S256x1024 .f32) (r : Fin 256) (o : Fin 1024) : k2_pay1 c (ix2 r o) = logEps (c (ix2 r o)) := by
  pointwise [k2_pay1]
  rfl

end Cert.KernelIdealPf
-- ==== Proof.Val.Arr0.lean ====
/- The router region's two result arrays, entry by entry over the extended reals. -/
module

public import proofs.«01_k».proof.Proof.Val.Pay
public import proofs.«01_k».proof.Proof.KI.Regs
public import Idealize.ShloMosaic.Lib.Pipeline.ValueKit

@[expose] public section

set_option maxRecDepth 16384

noncomputable section

namespace Cert.KernelIdealPf

open Cert.KernelIdeal hiding ix1
open Cert.KernelIdeal.Gen Cert.KernelIdeal.Pf
open Idealize.ShloMosaic Idealize.ShloMosaic.TcCoe Idealize.ShloMosaic.Tactic
open Idealize.ShloMosaic.Pipeline (Dat Cfg Window)
open Cert.Val (mx am msk gt dense soft logEps)

/-- A token's scores. -/
def lg (x : FVec Ideal S2048x1024 .f32) (w : FVec Ideal S1024x8 .f32) (b : Fin 2048) (e : Fin 8) : EReal := ∑ k, x (ix2 b k) * w (ix2 k e)

/-- A row's two experts. -/
def pickW (l : Fin 8 → EReal) (k : Fin 2) : BitVec 32 := if k = 0 then am l else am (msk l (am l))

/-- A row's two gates. -/
def pickG (l : Fin 8 → EReal) (k : Fin 2) : EReal := if k = 0 then gt (mx l) (mx (msk l (am l))) else gt (mx (msk l (am l))) (mx l)

variable (V : (c : Dev nD) → (b : Ref sig .tc) → Buf (Elt Ideal) ((c : Thread nD τ).loc b)) (c : Dev nD)

theorem e00 : ∀ t : Fin cfg0.N, win0_0.index t = ![t.val, 0] := (by decide +kernel : ∀ t : Fin grid0.N, _)
theorem e01 : ∀ t : Fin cfg0.N, win0_1.index t = ![0, 0] := (by decide +kernel : ∀ t : Fin grid0.N, _)
theorem e02 : ∀ t : Fin cfg0.N, win0_2.index t = ![t.val, 0] := (by decide +kernel : ∀ t : Fin grid0.N, _)
theorem e03 : ∀ t : Fin cfg0.N, win0_3.index t = ![t.val, 0] := (by decide +kernel : ∀ t : Fin grid0.N, _)

/-- A block's scores are its rows' scores. -/
theorem lg_block (t : Fin cfg0.N) (r : Fin 256) (b : Fin 2048) (hb : b.val = t.val * 256 + r.val) :
    lgB (iblk0 V c 0 t) (iblk0 V c 1 t) r = lg (V c main_arg0) (V c main_arg1) b := by
  funext e
  refine Finset.sum_congr rfl fun k _ => ?_
  congr 1
  · blk_simp [iblk0]
    congr 1
    blk_ext [e00]
  · blk_simp [iblk0]
    congr 1
    blk_ext [e01]

theorem arr0_2 (b : Fin 2048) (k : Fin 2) : (dat0 V c).arrAt 2 cfg0.N (ix2 b k) = pickW (lg (V c main_arg0) (V c main_arg1) b) k := by
  suffices h : (dat0 V c).arrAt 2 cfg0.N = fun i : S2048x2.Idx => pickW (lg (V c main_arg0) (V c main_arg1) (i 0)) (i 1) from congrFun h (ix2 b k)
  refine (dat0 V c).arrAt_eq_of_covers 2 _ (by decide +kernel) fun t hf y => ?_
  blk_simp
  rw [after0_2]
  idx_vars y
  have h0 : ((((View.whole main_v0_0).slice (win0_2.rect t)).emb (ix2 y0 y1) 0 : Fin 2048) : ℕ) = t.val * 256 + y0.val := by blk_simp [e02]
  have h1 : (((View.whole main_v0_0).slice (win0_2.rect t)).emb (ix2 y0 y1) 1 : Fin 2) = y1 := Fin.ext (by blk_simp [e02])
  rw [pay6_at, lg_block V c t y0 _ h0, h1]
  rfl

theorem arr0_3 (b : Fin 2048) (k : Fin 2) : (dat0 V c).arrAt 3 cfg0.N (ix2 b k) = pickG (lg (V c main_arg0) (V c main_arg1) b) k := by
  suffices h : (dat0 V c).arrAt 3 cfg0.N = fun i : S2048x2.Idx => pickG (lg (V c main_arg0) (V c main_arg1) (i 0)) (i 1) from congrFun h (ix2 b k)
  refine (dat0 V c).arrAt_eq_of_covers 3 _ (by decide +kernel) fun t hf y => ?_
  blk_simp
  rw [after0_3]
  idx_vars y
  have h0 : ((((View.whole main_v0_1).slice (win0_3.rect t)).emb (ix2 y0 y1) 0 : Fin 2048) : ℕ) = t.val * 256 + y0.val := by blk_simp [e03]
  have h1 : (((View.whole main_v0_1).slice (win0_3.rect t)).emb (ix2 y0 y1) 1 : Fin 2) = y1 := Fin.ext (by blk_simp [e03])
  rw [pay7_at, lg_block V c t y0 _ h0, h1]
  rfl

theorem e20 : ∀ t : Fin cfg2.N, win2_0.index t = ![t.val, 0] := (by decide +kernel : ∀ t : Fin grid2.N, _)
theorem e21 : ∀ t : Fin cfg2.N, win2_1.index t = ![t.val, 0] := (by decide +kernel : ∀ t : Fin grid2.N, _)

/-- The last region's result. -/
theorem arr2 (b : Fin 2048) (o : Fin 1024) : (dat2 V c).arrAt 1 cfg2.N (ix2 b o) = logEps ((V c main_v98 : FVec Ideal S2048x1024 .f32) (ix2 b o)) := by
  suffices h : (dat2 V c).arrAt 1 cfg2.N = fun i : S2048x1024.Idx => logEps ((V c main_v98 : FVec Ideal S2048x1024 .f32) i) from congrFun h (ix2 b o)
  refine (dat2 V c).arrAt_eq_of_covers 1 _ (by decide +kernel) fun t hf y => ?_
  blk_simp
  rw [after2_1]
  idx_vars y
  rw [fin_at]
  show logEps _ = logEps _
  congr 1

end Cert.KernelIdealPf
-- ==== Proof.Val.Arr1.lean ====
/- The experts' region's result array, entry by entry over the extended reals. -/
module

public import proofs.«01_k».proof.Proof.Val.Arr0

@[expose] public section

set_option maxRecDepth 16384

noncomputable section

namespace Cert.KernelIdealPf

open Cert.KernelIdeal hiding ix1
open Cert.KernelIdeal.Gen Cert.KernelIdeal.Pf
open Idealize.ShloMosaic Idealize.ShloMosaic.TcCoe Idealize.ShloMosaic.Tactic
open Idealize.ShloMosaic.Pipeline (Dat Cfg Window)
open Cert.Val (mx am msk gt dense soft expert)

variable (V : (c : Dev nD) → (b : Ref sig .tc) → Buf (Elt Ideal) ((c : Thread nD τ).loc b)) (c : Dev nD) (a : (p : Fin 3) → (pcfgs (F := Ideal) p).Adm)

/-- The experts' result window. -/
abbrev w16 : Window sig grid1 :=
  Window.ofSpec (Memref.whole main_v95) S256x1024.size cc1_transform_6 reads1_6 true false 2 stage1_6 sem1_6
    hrank1 hreads1_6 hinb1_6 nbuf1_6 (Memref.isWhole_whole _) hwx1_6 hstage1_6

theorem w16_eq : (cfg1 (a 1)).win 6 = w16 := rfl

theorem cov16 : ((cfg1 (a 1)).win 6).Covers := (by decide +kernel : w16.Covers)

theorem e10 : ∀ t : Fin (cfg1 (a 1)).N, ((cfg1 (a 1)).win 0).index t = ![t.val, 0] := (by decide +kernel : ∀ t : Fin grid1.N, cc1_transform_0 (grid1.coords t) = ![t.val, 0])
theorem e15 : ∀ t : Fin (cfg1 (a 1)).N, ((cfg1 (a 1)).win 5).index t = ![t.val, 0] := (by decide +kernel : ∀ t : Fin grid1.N, cc1_transform_5 (grid1.coords t) = ![t.val, 0])
theorem e16 : ∀ t : Fin (cfg1 (a 1)).N, ((cfg1 (a 1)).win 6).index t = ![t.val, 0] := (by decide +kernel : ∀ t : Fin grid1.N, cc1_transform_6 (grid1.coords t) = ![t.val, 0])

theorem coords1 : ∀ t : Fin grid1.N, (Rect.unit (s := S24) ![(Scalar.indexCast (BitVec.ofNat 32 (grid1.coords t 0).val) : Index).toNat] S1.size (k1_off1_inb (grid1.coords t))).emb (ValueIdx.ix1 0) = ValueIdx.ix1 (n := 24) ⟨t.val, t.isLt⟩ := by
  decide +kernel

theorem coords1' (t : Fin grid1.N) (y : S1.Idx) :
    (Rect.unit (s := S24) ![(Scalar.indexCast (BitVec.ofNat 32 (grid1.coords t 0).val) : Index).toNat] S1.size (k1_off1_inb (grid1.coords t))).emb y = ValueIdx.ix1 (n := 24) ⟨t.val, t.isLt⟩ := by
  idx_vars y
  obtain rfl : y0 = 0 := Subsingleton.elim _ _
  exact coords1 t

theorem e11 (t : Fin (cfg1 (a 1)).N) : ((cfg1 (a 1)).win 1).index t = ![((a 1).1 0 (ValueIdx.ix1 (n := 24) t) : BitVec 32).toNat, 0, 0] :=
  congrArg (fun q : S24.Idx => ![((a 1).1 0 q : BitVec 32).toNat, 0, 0]) (coords1' t _)
theorem e12 (t : Fin (cfg1 (a 1)).N) : ((cfg1 (a 1)).win 2).index t = ![((a 1).1 0 (ValueIdx.ix1 (n := 24) t) : BitVec 32).toNat, 0, 0] :=
  congrArg (fun q : S24.Idx => ![((a 1).1 0 q : BitVec 32).toNat, 0, 0]) (coords1' t _)
theorem e13 (t : Fin (cfg1 (a 1)).N) : ((cfg1 (a 1)).win 3).index t = ![((a 1).1 0 (ValueIdx.ix1 (n := 24) t) : BitVec 32).toNat, 0, 0] :=
  congrArg (fun q : S24.Idx => ![((a 1).1 0 q : BitVec 32).toNat, 0, 0]) (coords1' t _)
theorem e14 (t : Fin (cfg1 (a 1)).N) : ((cfg1 (a 1)).win 4).index t = ![((a 1).1 0 (ValueIdx.ix1 (n := 24) t) : BitVec 32).toNat, 0, 0] :=
  congrArg (fun q : S24.Idx => ![((a 1).1 0 q : BitVec 32).toNat, 0, 0]) (coords1' t _)

theorem emb10 (t : Fin (cfg1 (a 1)).N) (y : S256x1024.Idx) (k : Fin S256x1024.rank) : ((show S6144x1024.Idx from (((cfg1 (a 1)).win 0).blk t).view.emb y) k).val = ((cfg1 (a 1)).win 0).index t k * S256x1024.size k + (y k).val :=
  ValueKit.view_emb_slice_whole_unit_val main_v89 (fun k : Fin S256x1024.rank => ((cfg1 (a 1)).win 0).index t k * S256x1024.size k) S256x1024.size (fun k => (Nat.succ_mul _ _).symm.trans_le (hinb1 (a 1).1 (a 1).2 0 (grid1.coords t) k)) y k

theorem emb11 (t : Fin (cfg1 (a 1)).N) (y : S1x1024x2048.Idx) (k : Fin S1x1024x2048.rank) : ((show S8x1024x2048.Idx from (((cfg1 (a 1)).win 1).blk t).view.emb y) k).val = ((cfg1 (a 1)).win 1).index t k * S1x1024x2048.size k + (y k).val :=
  ValueKit.view_emb_slice_whole_unit_val main_v90 (fun k : Fin S1x1024x2048.rank => ((cfg1 (a 1)).win 1).index t k * S1x1024x2048.size k) S1x1024x2048.size (fun k => (Nat.succ_mul _ _).symm.trans_le (hinb1 (a 1).1 (a 1).2 1 (grid1.coords t) k)) y k

theorem emb12 (t : Fin (cfg1 (a 1)).N) (y : S1x1x2048.Idx) (k : Fin S1x1x2048.rank) : ((show S8x1x2048.Idx from (((cfg1 (a 1)).win 2).blk t).view.emb y) k).val = ((cfg1 (a 1)).win 2).index t k * S1x1x2048.size k + (y k).val :=
  ValueKit.view_emb_slice_whole_unit_val main_v92 (fun k : Fin S1x1x2048.rank => ((cfg1 (a 1)).win 2).index t k * S1x1x2048.size k) S1x1x2048.size (fun k => (Nat.succ_mul _ _).symm.trans_le (hinb1 (a 1).1 (a 1).2 2 (grid1.coords t) k)) y k

theorem emb13 (t : Fin (cfg1 (a 1)).N) (y : S1x2048x1024.Idx) (k : Fin S1x2048x1024.rank) : ((show S8x2048x1024.Idx from (((cfg1 (a 1)).win 3).blk t).view.emb y) k).val = ((cfg1 (a 1)).win 3).index t k * S1x2048x1024.size k + (y k).val :=
  ValueKit.view_emb_slice_whole_unit_val main_v91 (fun k : Fin S1x2048x1024.rank => ((cfg1 (a 1)).win 3).index t k * S1x2048x1024.size k) S1x2048x1024.size (fun k => (Nat.succ_mul _ _).symm.trans_le (hinb1 (a 1).1 (a 1).2 3 (grid1.coords t) k)) y k

theorem emb14 (t : Fin (cfg1 (a 1)).N) (y : S1x1x1024.Idx) (k : Fin S1x1x1024.rank) : ((show S8x1x1024.Idx from (((cfg1 (a 1)).win 4).blk t).view.emb y) k).val = ((cfg1 (a 1)).win 4).index t k * S1x1x1024.size k + (y k).val :=
  ValueKit.view_emb_slice_whole_unit_val main_v93 (fun k : Fin S1x1x1024.rank => ((cfg1 (a 1)).win 4).index t k * S1x1x1024.size k) S1x1x1024.size (fun k => (Nat.succ_mul _ _).symm.trans_le (hinb1 (a 1).1 (a 1).2 4 (grid1.coords t) k)) y k

theorem emb15 (t : Fin (cfg1 (a 1)).N) (y : S256x1.Idx) (k : Fin S256x1.rank) : ((show S6144x1.Idx from (((cfg1 (a 1)).win 5).blk t).view.emb y) k).val = ((cfg1 (a 1)).win 5).index t k * S256x1.size k + (y k).val :=
  ValueKit.view_emb_slice_whole_unit_val main_v94 (fun k : Fin S256x1.rank => ((cfg1 (a 1)).win 5).index t k * S256x1.size k) S256x1.size (fun k => (Nat.succ_mul _ _).symm.trans_le (hinb1 (a 1).1 (a 1).2 5 (grid1.coords t) k)) y k

theorem emb16 (t : Fin (cfg1 (a 1)).N) (y : S256x1024.Idx) (k : Fin S256x1024.rank) : ((show S6144x1024.Idx from (((cfg1 (a 1)).win 6).blk t).view.emb y) k).val = ((cfg1 (a 1)).win 6).index t k * S256x1024.size k + (y k).val :=
  ValueKit.view_emb_slice_whole_unit_val main_v95 (fun k : Fin S256x1024.rank => ((cfg1 (a 1)).win 6).index t k * S256x1024.size k) S256x1024.size (fun k => (Nat.succ_mul _ _).symm.trans_le (hinb1 (a 1).1 (a 1).2 6 (grid1.coords t) k)) y k

/-- A gathered row's entry, given its block's expert. -/
def zRow (X : FVec Ideal S6144x1024 .f32) (w1 : FVec Ideal S8x1024x2048 .bf16) (b1 : FVec Ideal S8x1x2048 .f32) (w2 : FVec Ideal S8x2048x1024 .bf16) (b2 : FVec Ideal S8x1x1024 .f32)
    (g : FVec Ideal S6144x1 .f32) (e : Fin 8) (p : Fin 6144) (o : Fin 1024) : EReal :=
  expert (fun d => X (ix2 p d)) (fun d h => w1 (ix3 e d h)) (fun h => b1 (ix3 e 0 h)) (fun h o => w2 (ix3 e h o)) (fun o => b2 (ix3 e 0 o)) o * g (ix2 p 0)

theorem blk10 (t : Fin (cfg1 (a 1)).N) (r : Fin 256) (d : Fin 1024) (p : Fin 6144) (hp : p.val = t.val * 256 + r.val) :
    (show S256x1024.Idx → EReal from iblk1 V (a 1) c 0 t) (ix2 r d) = (show S6144x1024.Idx → EReal from V c main_v89) (ix2 p d) := by
  refine congrArg (show S6144x1024.Idx → EReal from V c main_v89) (funext fun k => Fin.ext ((emb10 a t (ix2 r d) k).trans ?_))
  rw [e10]
  fin_cases k
  · exact hp.symm
  · show 0 * 1024 + d.val = d.val; omega

theorem blk15 (t : Fin (cfg1 (a 1)).N) (r : Fin 256) (d : Fin 1) (p : Fin 6144) (hp : p.val = t.val * 256 + r.val) :
    (show S256x1.Idx → EReal from iblk1 V (a 1) c 5 t) (ix2 r d) = (show S6144x1.Idx → EReal from V c main_v94) (ix2 p d) := by
  refine congrArg (show S6144x1.Idx → EReal from V c main_v94) (funext fun k => Fin.ext ((emb15 a t (ix2 r d) k).trans ?_))
  rw [e15]
  fin_cases k
  · exact hp.symm
  · show 0 * 1 + d.val = d.val; omega

theorem blk11 (t : Fin (cfg1 (a 1)).N) (q : Fin 1024) (d : Fin 2048) (e : Fin 8) (he : ((a 1).1 0 (ValueIdx.ix1 (n := 24) t) : BitVec 32).toNat = e.val) :
    (show S1x1024x2048.Idx → EReal from iblk1 V (a 1) c 1 t) (ix3 0 q d) = (show S8x1024x2048.Idx → EReal from V c main_v90) (ix3 e q d) := by
  refine congrArg (show S8x1024x2048.Idx → EReal from V c main_v90) (funext fun k => Fin.ext ((emb11 a t (ix3 0 q d) k).trans ?_))
  rw [e11, he]
  fin_cases k
  · show e.val * 1 + 0 = e.val; omega
  · show 0 * 1024 + q.val = q.val; omega
  · show 0 * 2048 + d.val = d.val; omega

theorem blk12 (t : Fin (cfg1 (a 1)).N) (q : Fin 1) (d : Fin 2048) (e : Fin 8) (he : ((a 1).1 0 (ValueIdx.ix1 (n := 24) t) : BitVec 32).toNat = e.val) :
    (show S1x1x2048.Idx → EReal from iblk1 V (a 1) c 2 t) (ix3 0 q d) = (show S8x1x2048.Idx → EReal from V c main_v92) (ix3 e q d) := by
  refine congrArg (show S8x1x2048.Idx → EReal from V c main_v92) (funext fun k => Fin.ext ((emb12 a t (ix3 0 q d) k).trans ?_))
  rw [e12, he]
  fin_cases k
  · show e.val * 1 + 0 = e.val; omega
  · show 0 * 1 + q.val = q.val; omega
  · show 0 * 2048 + d.val = d.val; omega

theorem blk13 (t : Fin (cfg1 (a 1)).N) (q : Fin 2048) (d : Fin 1024) (e : Fin 8) (he : ((a 1).1 0 (ValueIdx.ix1 (n := 24) t) : BitVec 32).toNat = e.val) :
    (show S1x2048x1024.Idx → EReal from iblk1 V (a 1) c 3 t) (ix3 0 q d) = (show S8x2048x1024.Idx → EReal from V c main_v91) (ix3 e q d) := by
  refine congrArg (show S8x2048x1024.Idx → EReal from V c main_v91) (funext fun k => Fin.ext ((emb13 a t (ix3 0 q d) k).trans ?_))
  rw [e13, he]
  fin_cases k
  · show e.val * 1 + 0 = e.val; omega
  · show 0 * 2048 + q.val = q.val; omega
  · show 0 * 1024 + d.val = d.val; omega

theorem blk14 (t : Fin (cfg1 (a 1)).N) (q : Fin 1) (d : Fin 1024) (e : Fin 8) (he : ((a 1).1 0 (ValueIdx.ix1 (n := 24) t) : BitVec 32).toNat = e.val) :
    (show S1x1x1024.Idx → EReal from iblk1 V (a 1) c 4 t) (ix3 0 q d) = (show S8x1x1024.Idx → EReal from V c main_v93) (ix3 e q d) := by
  refine congrArg (show S8x1x1024.Idx → EReal from V c main_v93) (funext fun k => Fin.ext ((emb14 a t (ix3 0 q d) k).trans ?_))
  rw [e14, he]
  fin_cases k
  · show e.val * 1 + 0 = e.val; omega
  · show 0 * 1 + q.val = q.val; omega
  · show 0 * 1024 + d.val = d.val; omega

/-- A block of the experts' result. -/
theorem z_block (t : Fin (cfg1 (a 1)).N) (r : Fin 256) (o : Fin 1024) (p : Fin 6144) (hp : p.val = t.val * 256 + r.val) (e : Fin 8)
    (he : ((a 1).1 0 (ValueIdx.ix1 (n := 24) t) : BitVec 32).toNat = e.val) :
    (show S256x1024.Idx → EReal from (dat1 V a c).after 6 t) (ix2 r o)
      = zRow (V c main_v89) (V c main_v90) (V c main_v92) (V c main_v91) (V c main_v93) (V c main_v94) e p o := by
  rw [after1_6]
  refine (z_at _ _ _ _ _ _ r o).trans ?_
  refine congr (congrArg HMul.hMul ?_) (blk15 V c a t r 0 p hp)
  have h0 : (fun d => (show S256x1024.Idx → EReal from iblk1 V (a 1) c 0 t) (ix2 r d)) = fun d => (show S6144x1024.Idx → EReal from V c main_v89) (ix2 p d) :=
    funext fun d => blk10 V c a t r d p hp
  have h1 : (fun d h => (show S1x1024x2048.Idx → EReal from iblk1 V (a 1) c 1 t) (ix3 0 d h)) = fun d h => (show S8x1024x2048.Idx → EReal from V c main_v90) (ix3 e d h) :=
    funext fun d => funext fun h => blk11 V c a t d h e he
  have h2 : (fun h => (show S1x1x2048.Idx → EReal from iblk1 V (a 1) c 2 t) (ix3 0 0 h)) = fun h => (show S8x1x2048.Idx → EReal from V c main_v92) (ix3 e 0 h) :=
    funext fun h => blk12 V c a t 0 h e he
  have h3 : (fun d h => (show S1x2048x1024.Idx → EReal from iblk1 V (a 1) c 3 t) (ix3 0 d h)) = fun d h => (show S8x2048x1024.Idx → EReal from V c main_v91) (ix3 e d h) :=
    funext fun d => funext fun h => blk13 V c a t d h e he
  have h4 : (fun h => (show S1x1x1024.Idx → EReal from iblk1 V (a 1) c 4 t) (ix3 0 0 h)) = fun h => (show S8x1x1024.Idx → EReal from V c main_v93) (ix3 e 0 h) :=
    funext fun h => blk14 V c a t 0 h e he
  exact congrFun (congr (congr (congr (congr (congrArg expert h0) h1) h2) h3) h4) o

/-- The same at an index of the array. -/
theorem z_step (E : Fin 24 → Fin 8) (hE : ∀ j, ((a 1).1 0 (ValueIdx.ix1 j) : BitVec 32).toNat = (E j).val) (t : Fin (cfg1 (a 1)).N) (r : Fin 256) (o : Fin 1024) (q : S6144x1024.Idx)
    (h0 : (q 0).val = t.val * 256 + r.val) (h1 : (q 1).val = 0 * 1024 + o.val) (j : Fin 24) (hj : (q 0).val / 256 = j.val) :
    (show S256x1024.Idx → EReal from (dat1 V a c).after 6 t) (ix2 r o)
      = zRow (V c main_v89) (V c main_v90) (V c main_v92) (V c main_v91) (V c main_v93) (V c main_v94) (E j) (q 0) (q 1) := by
  have e1 : q 1 = o := Fin.ext (by omega)
  have ej : j.val = t.val := by omega
  have he : ((a 1).1 0 (ValueIdx.ix1 (n := 24) t) : BitVec 32).toNat = (E j).val := by
    rw [← hE j]; exact congrArg (fun q : Fin 24 => ((a 1).1 0 (ValueIdx.ix1 q) : BitVec 32).toNat) (Fin.ext ej.symm)
  rw [e1]
  exact z_block V c a t r o (q 0) h0 (E j) he

theorem arr1 (E : Fin 24 → Fin 8) (hE : ∀ j, ((a 1).1 0 (ValueIdx.ix1 j) : BitVec 32).toNat = (E j).val) (j : Fin 24) (p : Fin 6144) (hp : p.val / 256 = j.val)
    (o : Fin 1024) : (dat1 V a c).arrAt 6 (cfg1 (a 1)).N (ix2 p o) = zRow (V c main_v89) (V c main_v90) (V c main_v92) (V c main_v91) (V c main_v93) (V c main_v94) (E j) p o := by
  have key : ∀ i : S6144x1024.Idx, ∀ j : Fin 24, (i 0).val / 256 = j.val → (dat1 V a c).arrAt 6 (cfg1 (a 1)).N i
      = zRow (V c main_v89) (V c main_v90) (V c main_v92) (V c main_v91) (V c main_v93) (V c main_v94) (E j) (i 0) (i 1) := fun i =>
    (dat1 V a c).arrAt_forall_of_covers 6 (fun (i : S6144x1024.Idx) (v : EReal) => ∀ j : Fin 24, (i 0).val / 256 = j.val →
      v = zRow (V c main_v89) (V c main_v90) (V c main_v92) (V c main_v91) (V c main_v93) (V c main_v94) (E j) (i 0) (i 1)) (cov16 a) (fun t hf y => by
        have hy : (show S256x1024.Idx from y) = ix2 ((show S256x1024.Idx from y) 0) ((show S256x1024.Idx from y) 1) := funext fun k => by fin_cases k <;> rfl
        have h0 : ((show S6144x1024.Idx from (((cfg1 (a 1)).win 6).blk t).view.emb y) 0).val = t.val * 256 + ((show S256x1024.Idx from y) 0).val :=
          (emb16 a t y 0).trans (by rw [e16]; rfl)
        have h1 : ((show S6144x1024.Idx from (((cfg1 (a 1)).win 6).blk t).view.emb y) 1).val = 0 * 1024 + ((show S256x1024.Idx from y) 1).val :=
          (emb16 a t y 1).trans (by rw [e16]; rfl)
        intro j hj
        exact (congrArg (show S256x1024.Idx → EReal from (dat1 V a c).after 6 t) hy).trans (z_step V c a E hE t _ _ _ h0 h1 j hj)) i
  exact key (ix2 p o) j hp

end Cert.KernelIdealPf
-- ==== Proof.Val.RefStages.lean ====
/- The reference's result in stages, and each stage read at an index over the extended reals. -/
module

public import proofs.«01_k».proof.Proof.Val.Consts
public import proofs.«01_k».proof.Proof.Gen.ReferenceIdeal.Run
public import Idealize.ShloMosaic.Lib.Pointwise
public import Idealize.ShloMosaic.Lib.Tactic
public import Idealize.ShloMosaic.Lib.Routing.OpsPair

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe Idealize.ShloMosaic.Tactic
open Cert.Val (mx am msk gt dense soft)

variable {F : FTy → Type} [FloatOps F]

def logit (x : FVec F S2048x1024 .f32) (w : FVec F S1024x8 .f32) : FVec F S2048x8 .f32 :=
  Host.dotGeneral dot_S2048x1024_S1024x8_S2048x8_1_0_0_1_n_n none x w

def tops (l : FVec F S2048x8 .f32) : FVec F S2048x2 .f32 := (Host.topK S2048x2 1 (FloatOps.cmpfTotal .gt) l sliceFits_S2048x8_S2048x2).1

def idx (l : FVec F S2048x8 .f32) : IVec S2048x2 32 := (Host.topK S2048x2 1 (FloatOps.cmpfTotal .gt) l sliceFits_S2048x8_S2048x2).2

/-- The softmax of the two greatest. -/
def gates2 (v : FVec F S2048x2 .f32) : FVec F S2048x2 .f32 :=
  let e : FVec F S2048x2 .f32 := Host.exp (subf v (broadcastInDim S2048x2 ![0, 1] bcast_S2048x1_S2048x2_0_1 (broadcastInDim S2048x1 ![0] bcast_S2048_S2048x1_0
    (maximumf (broadcastInDim S2048 ![] bcast_S_S2048 (constant S_ .f32 0xFF800000#32))
      (Host.reduce FloatOps.maximumf v (constant S_ .f32 0xFF800000#32) reducesTo_S2048x2_S2048_d1 h_S_)))))
  Host.divf e (broadcastInDim S2048x2 ![0, 1] bcast_S2048x1_S2048x2_0_1 (broadcastInDim S2048x1 ![0] bcast_S2048_S2048x1_0
    (Host.reduceAdd e (constant S_ .f32 0x00000000#32) reducesTo_S2048x2_S2048_d1 h_S_)))

/-- Where each gate goes. -/
def spots (i : IVec S2048x2 32) : IVec S2048x2x2 32 :=
  let r : IVec S2048x1 32 := broadcastInDim S2048x1 ![0] bcast_S2048_S2048x1_0 (iotaInDim S2048 32 0)
  fn_main_v28 (F := F)
    (broadcastInDim S2048x2x1 ![0, 1] bcast_S2048x2_S2048x2x1_0_1 (broadcastInDim S2048x2 ![0, 1] bcast_S2048x1_S2048x2_0_1
      (select (cmpi .slt r (broadcastInDim S2048x1 ![] bcast_S_S2048x1 (constantI S_ 32 0#32))) (addi r (broadcastInDim S2048x1 ![] bcast_S_S2048x1 (constantI S_ 32 2048#32))) r)))
    (broadcastInDim S2048x2x1 ![0, 1] bcast_S2048x2_S2048x2x1_0_1
      (select (cmpi .slt i (broadcastInDim S2048x2 ![] bcast_S_S2048x2 (constantI S_ 32 0#32))) (addi i (broadcastInDim S2048x2 ![] bcast_S_S2048x2 (constantI S_ 32 8#32))) i))

/-- The gates of all experts. -/
def gates8 (i : IVec S2048x2 32) (g : FVec F S2048x2 .f32) : FVec F S2048x8 .f32 :=
  Host.scatter scatter_S2048x8_S2048x2x2_S2048x2_n_01_01_2 (fun _ b => b) (broadcastInDim S2048x8 ![] bcast_S_S2048x8 (constant S_ .f32 0x00000000#32)) (spots (F := F) i) g

/-- The experts' rows before the softmax. -/
def rows (x : FVec F S2048x1024 .f32) (w1 : FVec F S8x1024x2048 .f32) (b1 : FVec F S8x2048 .f32) (w2 : FVec F S8x2048x1024 .f32) (b2 : FVec F S8x1024 .f32) : FVec F S8x2048x1024 .f32 :=
  let h : FVec F S8x2048x2048 .f32 := addf (transpose S8x2048x2048 [0, 2, 1] (Host.dotGeneral dot_S8x1024x2048_S2048x1024_S8x2048x2048_1_1_02_0_n_n none w1 x) transposes_S8x2048x2048_S8x2048x2048_0_2_1)
    (broadcastInDim S8x2048x2048 ![0, 1, 2] bcast_S8x1x2048_S8x2048x2048_0_1_2 (broadcastInDim S8x1x2048 ![0, 2] bcast_S8x2048_S8x1x2048_0_2 b1))
  let a : FVec F S8x2048x2048 .f32 := mulf (mulf (broadcastInDim S8x2048x2048 ![] bcast_S_S8x2048x2048 (constant S_ .f32 0x3F000000#32)) h)
    (Host.erfc (mulf (Host.negf h) (broadcastInDim S8x2048x2048 ![] bcast_S_S8x2048x2048 (constant S_ .f32 0x3F3504F3#32))))
  addf (Host.dotGeneral dot_S8x2048x2048_S8x2048x1024_S8x2048x1024_2_1_1_2_0_0 none a w2)
    (broadcastInDim S8x2048x1024 ![0, 1, 2] bcast_S8x1x1024_S8x2048x1024_0_1_2 (broadcastInDim S8x1x1024 ![0, 2] bcast_S8x1024_S8x1x1024_0_2 b2))

/-- Each row's greatest entry. -/
def rowMax (o : FVec F S8x2048x1024 .f32) : FVec F S8x2048 .f32 :=
  maximumf (broadcastInDim S8x2048 ![] bcast_S_S8x2048 (constant S_ .f32 0xFF800000#32))
    (Host.reduce FloatOps.maximumf o (constant S_ .f32 0xFF800000#32) reducesTo_S8x2048x1024_S8x2048_d2 h_S_)

/-- Rows less a value each. -/
def less (o : FVec F S8x2048x1024 .f32) (v : FVec F S8x2048 .f32) : FVec F S8x2048x1024 .f32 :=
  subf o (broadcastInDim S8x2048x1024 ![0, 1, 2] bcast_S8x2048x1_S8x2048x1024_0_1_2 (broadcastInDim S8x2048x1 ![0, 1] bcast_S8x2048_S8x2048x1_0_1 v))

/-- Each row's sum of exponentials. -/
def rowSum (d : FVec F S8x2048x1024 .f32) : FVec F S8x2048 .f32 :=
  Host.reduceAdd (Host.exp d) (constant S_ .f32 0x00000000#32) reducesTo_S8x2048x1024_S8x2048_d2 h_S_

/-- The log-softmax of each expert's rows. -/
def logp (o : FVec F S8x2048x1024 .f32) : FVec F S8x2048x1024 .f32 :=
  let d : FVec F S8x2048x1024 .f32 := less o (rowMax o)
  subf d (broadcastInDim S8x2048x1024 ![0, 1, 2] bcast_S8x2048x1_S8x2048x1024_0_1_2 (Host.log (broadcastInDim S8x2048x1 ![0, 1] bcast_S8x2048_S8x2048x1_0_1 (rowSum d))))

/-- The weighted sum over the experts. -/
def comb (p : FVec F S8x2048x1024 .f32) (g : FVec F S2048x8 .f32) : FVec F S2048x1024 .f32 :=
  Host.reduceAdd (mulf (Host.exp p) (broadcastInDim S8x2048x1024 ![0, 1, 2] bcast_S8x2048x1_S8x2048x1024_0_1_2 (broadcastInDim S8x2048x1 ![0, 1] bcast_S8x2048_S8x2048x1_0_1
    (transpose S8x2048 [1, 0] g transposes_S2048x8_S8x2048_1_0)))) (constant S_ .f32 0x00000000#32) reducesTo_S8x2048x1024_S2048x1024_d0 h_S_

def last (c : FVec F S2048x1024 .f32) : FVec F S2048x1024 .f32 :=
  Host.log (select (cmpf .oeq c (broadcastInDim S2048x1024 ![] bcast_S_S2048x1024 (constant S_ .f32 0x00000000#32)))
    (broadcastInDim S2048x1024 ![] bcast_S_S2048x1024 (constant S_ .f32 0x25800000#32)) c)

def all (x : FVec F S2048x1024 .f32) (wg : FVec F S1024x8 .f32) (w1 : FVec F S8x1024x2048 .f32) (b1 : FVec F S8x2048 .f32) (w2 : FVec F S8x2048x1024 .f32) (b2 : FVec F S8x1024 .f32) :
    FVec F S2048x1024 .f32 :=
  last (comb (logp (rows x w1 b1 w2 b2)) (gates8 (idx (logit x wg)) (gates2 (tops (logit x wg)))))

set_option maxHeartbeats 2000000 in
theorem res_eq (m : (ℓ : Loc nD τ sig) → Buf (Elt F) ℓ) (c : Dev nD) :
    res_main_v56 m c = all (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v56
  rfl

end Cert.ReferenceIdeal.Pf
-- ==== Proof.Val.Ref.lean ====
/- The reference's stages read at an index over the extended reals. -/
module

public import proofs.«01_k».proof.Proof.Val.RefStages

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe Idealize.ShloMosaic.Tactic
open Cert.Val (mx am msk gt dense soft)

theorem logit_at (x : FVec Ideal S2048x1024 .f32) (w : FVec Ideal S1024x8 .f32) (b : Fin 2048) (e : Fin 8) : logit x w (ix2 b e) = ∑ k, x (ix2 b k) * w (ix2 k e) := by
  pointwise [logit]

theorem gates2_at (v : FVec Ideal S2048x2 .f32) (b : Fin 2048) (k : Fin 2) : gates2 v (ix2 b k)
    = Ideal.div (Ideal.exp (v (ix2 b k) - mx fun j : Fin 2 => v (ix2 b j))) (∑ i : Fin 2, Ideal.exp (v (ix2 b i) - mx fun j : Fin 2 => v (ix2 b j))) := by
  pointwise [gates2]
  simp only [Val.ninf, max_bot_left]
  rfl

theorem rows_at (x : FVec Ideal S2048x1024 .f32) (w1 : FVec Ideal S8x1024x2048 .f32) (b1 : FVec Ideal S8x2048 .f32) (w2 : FVec Ideal S8x2048x1024 .f32) (b2 : FVec Ideal S8x1024 .f32)
    (e : Fin 8) (b : Fin 2048) (o : Fin 1024) : rows x w1 b1 w2 b2 (ix3 e b o)
    = dense (Ideal.ofBits .f32 0x3F000000#32) (Ideal.ofBits .f32 0x3F3504F3#32) (fun d => x (ix2 b d)) (fun d h => w1 (ix3 e d h)) (fun h => b1 (ix2 e h)) (fun h o => w2 (ix3 e h o))
        (fun o => b2 (ix2 e o)) o := by
  pointwise [rows]
  simp only [neg_mul, Ideal.erfc_neg]
  unfold dense
  simp only [mul_comm (w1 _) (x _)]

theorem row_max {n0 n1 n2 : ℕ} (h : (⟨3, ![n0, n1, n2]⟩ : Shape).ReducesTo [2] ⟨2, ![n0, n1]⟩) (v : FVec Ideal ⟨3, ![n0, n1, n2]⟩ .f32) (e : Fin n0) (b : Fin n1) :
    Host.reduce FloatOps.maximumf v (constant S_ .f32 0xFF800000#32) h h_S_ (ix2 e b) = mx (fun k : Fin n2 => v (ix3 e b k)) := by
  pointwise
  rw [Val.ninf]
  unfold mx
  rfl

theorem max_row (v : FVec Ideal S8x2048 .f32) (i : S8x2048.Idx) : (maximumf (broadcastInDim S8x2048 ![] bcast_S_S8x2048 (constant S_ .f32 0xFF800000#32)) v : FVec Ideal S8x2048 .f32) i = v i := by
  idx_vars i
  pointwise
  rw [Val.ninf]
  exact max_eq_right bot_le

theorem rowMax_at (v : FVec Ideal S8x2048x1024 .f32) (e : Fin 8) (b : Fin 2048) : rowMax v (ix2 e b) = mx (fun k : Fin 1024 => v (ix3 e b k)) :=
  (max_row _ _).trans (row_max reducesTo_S8x2048x1024_S8x2048_d2 v e b)

theorem less_at (v : FVec Ideal S8x2048x1024 .f32) (g : FVec Ideal S8x2048 .f32) (e : Fin 8) (b : Fin 2048) (o : Fin 1024) : less v g (ix3 e b o) = v (ix3 e b o) - g (ix2 e b) := by
  pointwise [less]

theorem rowSum_at (d : FVec Ideal S8x2048x1024 .f32) (e : Fin 8) (b : Fin 2048) : rowSum d (ix2 e b) = ∑ k : Fin 1024, Ideal.exp (d (ix3 e b k)) := by
  pointwise [rowSum]

theorem logp_step (v : FVec Ideal S8x2048x1024 .f32) (e : Fin 8) (b : Fin 2048) (o : Fin 1024) : logp v (ix3 e b o)
    = less v (rowMax v) (ix3 e b o) - Ideal.log (rowSum (less v (rowMax v)) (ix2 e b)) := by
  unfold logp
  generalize less v (rowMax v) = d
  dsimp only
  generalize rowSum d = g
  pointwise

theorem logp_at (v : FVec Ideal S8x2048x1024 .f32) (e : Fin 8) (b : Fin 2048) (o : Fin 1024) : logp v (ix3 e b o)
    = v (ix3 e b o) - mx (fun k : Fin 1024 => v (ix3 e b k)) - Ideal.log (∑ k : Fin 1024, Ideal.exp (v (ix3 e b k) - mx fun k : Fin 1024 => v (ix3 e b k))) := by
  rw [logp_step, rowSum_at]
  simp only [less_at, rowMax_at]

theorem comb_at (p : FVec Ideal S8x2048x1024 .f32) (g : FVec Ideal S2048x8 .f32) (b : Fin 2048) (o : Fin 1024) : comb p g (ix2 b o)
    = ∑ e : Fin 8, Ideal.exp (p (ix3 e b o)) * g (ix2 b e) := by
  pointwise [comb]

theorem last_at (c : FVec Ideal S2048x1024 .f32) (b : Fin 2048) (o : Fin 1024) : last c (ix2 b o) = Ideal.log (if c (ix2 b o) = 0 then Ideal.ofBits .f32 0x25800000#32 else c (ix2 b o)) := by
  pointwise [last]

end Cert.ReferenceIdeal.Pf
-- ==== Proof.Val.Scat.lean ====
/- Where the reference's gates land, and its picks. -/
module

public import proofs.«01_k».proof.Proof.Val.RefStages
public import Idealize.ShloMosaic.Lib.Routing.OpsSet

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe Idealize.ShloMosaic.Tactic
open Cert.Val (mx am msk gt dense soft)

theorem wrapped (w a : BitVec 32) (n : ℕ) (hw : w = BitVec.ofNat 32 n) (hn : n < 2 ^ 31) : Scalar.select (IntOp.cmpi .slt w 0#32) a w = BitVec.ofNat 32 n := by
  rw [Routing.wrap_of_lt _ _ (by rw [hw, BitVec.toNat_ofNat]; omega), hw]

theorem spots_row (i : IVec S2048x2 32) (b : Fin 2048) (k : Fin 2) : spots (F := Ideal) i (ix3 b k 0) = BitVec.ofNat 32 b.val := by
  have hb := b.isLt
  refine Eq.trans ?_ (wrapped (BitVec.ofNat 32 b.val) (IntOp.addi (BitVec.ofNat 32 b.val) 2048#32) b.val rfl (by omega))
  pointwise [spots, fn_main_v28]

theorem spots_col (i : IVec S2048x2 32) (b : Fin 2048) (k : Fin 2) (e : Fin 8) (he : i (ix2 b k) = BitVec.ofNat 32 e.val) : spots (F := Ideal) i (ix3 b k 1) = BitVec.ofNat 32 e.val := by
  refine Eq.trans ?_ (wrapped (i (ix2 b k)) (IntOp.addi (i (ix2 b k)) 8#32) e.val he (by omega))
  pointwise [spots, fn_main_v28]

/-- The gates of all experts: the two gates at the two picks, zero elsewhere. -/
theorem gates8_at (i : IVec S2048x2 32) (g : FVec Ideal S2048x2 .f32) (j : Fin 2048 → Fin 2 → Fin 8) (hj : ∀ b k, i (ix2 b k) = BitVec.ofNat 32 (j b k).val)
    (hne : ∀ b, j b 0 ≠ j b 1) (b : Fin 2048) : (∀ k, gates8 i g (ix2 b (j b k)) = g (ix2 b k)) ∧ ∀ e, e ≠ j b 0 → e ≠ j b 1 → gates8 i g (ix2 b e) = 0 := by
  have lands : ∀ (a : Fin 2048) (k : Fin 2) (r : Fin 2048) (e : Fin 8),
      ScatterDims.resultIdx? scatter_S2048x8_S2048x2x2_S2048x2_n_01_01_2 (ix2 a k) (spots (F := Ideal) i) = some (ix2 r e) ↔ a = r ∧ j a k = e := fun a k r e => by
    have hja := (j a k).isLt
    have ha := a.isLt
    refine (Routing.scatter_lands2 _ rfl rfl rfl (spots (F := Ideal) i) a k r e).trans ?_
    have h0 := spots_row i a k
    have h1 := spots_col i a k (j a k) (hj a k)
    constructor
    · rintro ⟨p, q⟩
      replace p := (congrArg BitVec.toInt h0).symm.trans p
      replace q := (congrArg BitVec.toInt h1).symm.trans q
      rw [StableHlo.Predicate.toInt_ofNat_small _ (by omega)] at p q
      exact ⟨Fin.ext (by exact_mod_cast p), Fin.ext (by exact_mod_cast q)⟩
    · rintro ⟨rfl, rfl⟩
      exact ⟨(congrArg BitVec.toInt h0).trans (StableHlo.Predicate.toInt_ofNat_small _ (by omega)), (congrArg BitVec.toInt h1).trans (StableHlo.Predicate.toInt_ofNat_small _ (by omega))⟩
  have eta : ∀ q : S2048x2.Idx, q = ix2 (q 0) (q 1) := fun q => funext fun z => by fin_cases z <;> rfl
  refine ⟨fun k => ?_, fun e h0 h1 => ?_⟩
  · unfold gates8
    refine Routing.scatter_set_hit _ _ _ _ _ _ (fun q hq => ?_) (ix2 b k) ((lands b k b _).2 ⟨rfl, rfl⟩)
    rw [eta q] at hq ⊢
    obtain ⟨p, r⟩ := (lands _ _ _ _).1 hq
    rw [p] at r ⊢
    have hk : q 1 = k := by
      have hn := hne b
      generalize (q 1 : Fin 2) = u at r ⊢
      fin_cases u <;> fin_cases k
      · rfl
      · exact absurd r hn
      · exact absurd r.symm hn
      · rfl
    exact congrArg (fun u : Fin 2 => g (ix2 b u)) hk
  · unfold gates8
    refine (Routing.scatter_set_miss _ _ _ _ _ fun q hq => ?_).trans ?_
    · rw [eta q] at hq
      obtain ⟨p, r⟩ := (lands _ _ _ _).1 hq
      rw [p] at r
      generalize (q 1 : Fin 2) = u at r
      fin_cases u
      · exact h0 r.symm
      · exact h1 r.symm
    · pointwise

/-- The order of the scores. -/
def Rr (l : Fin 8 → EReal) (a b : Fin 8) : Bool := FloatOps.cmpfTotal (F := Ideal) (φ := .f32) .gt (l a) (l b) == 1#1

theorem Rr_iff (l : Fin 8 → EReal) (a b : Fin 8) : Rr l a b = true ↔ l b < l a := by
  unfold Rr
  show (BitVec.ofBool (decide (l b < l a)) == 1#1) = true ↔ _
  by_cases h : l b < l a
  · simp [h]
  · simp [h]

/-- The place of the `k`-th greatest score. -/
def pl (l : Fin 8 → EReal) (k : Fin 2) : Fin 8 := sortedFrom (Rr l) (k.castLE (by decide))

/-- A sort of the scores along their axis, read at an index. -/
theorem sort_at (l : FVec Ideal S2048x8 .f32) (y : IVec S2048x8 32) (b : Fin 2048) (q : Fin 8) :
    (Host.sort2 S2048x8 1 (fun u v => FloatOps.cmpfTotal (F := Ideal) (φ := .f32) .gt u.1 v.1) l y).1 (ix2 b q) = l (ix2 b (sortedFrom (Rr fun e => l (ix2 b e)) q))
    ∧ (Host.sort2 S2048x8 1 (fun u v => FloatOps.cmpfTotal (F := Ideal) (φ := .f32) .gt u.1 v.1) l y).2 (ix2 b q) = y (ix2 b (sortedFrom (Rr fun e => l (ix2 b e)) q)) := by
  have hal : ∀ e : Fin 8, ((ix2 b q : S2048x8.Idx).along 1 e) = ix2 b e := fun e => by
    funext a
    fin_cases a
    · exact Function.update_of_ne (by decide) _ _
    · exact Function.update_self _ _ _
  have hbe : (fun e e' : Fin 8 => FloatOps.cmpfTotal (F := Ideal) (φ := .f32) .gt (l ((ix2 b q : S2048x8.Idx).along 1 e)) (l ((ix2 b q : S2048x8.Idx).along 1 e')) == 1#1) = Rr fun e => l (ix2 b e) := by
    funext e e'
    rw [hal, hal]
    rfl
  constructor
  · refine (congrArg l (hal _)).trans ?_
    exact congrArg (fun B : Fin 8 → Fin 8 → Bool => l (ix2 b (sortedFrom B q))) hbe
  · refine (congrArg y (hal _)).trans ?_
    exact congrArg (fun B : Fin 8 → Fin 8 → Bool => y (ix2 b (sortedFrom B q))) hbe

theorem topK_at (l : FVec Ideal S2048x8 .f32) (b : Fin 2048) (k : Fin 2) :
    tops l (ix2 b k) = l (ix2 b (pl (fun e => l (ix2 b e)) k)) ∧ idx l (ix2 b k) = BitVec.ofNat 32 (pl (fun e => l (ix2 b e)) k).val := by
  have cut : ∀ {α : Type} (x : S2048x8.Idx → α), extractStridedSlice S2048x2 (fun _ => 0) x sliceFits_S2048x8_S2048x2 (ix2 b k) = x (ix2 b (k.castLE (by decide))) := fun x =>
    congrArg x (funext fun a => by fin_cases a <;> exact Fin.ext (Nat.zero_add _))
  constructor
  · exact (cut _).trans (sort_at l (iotaInDim S2048x8 32 1) b _).1
  · exact (cut _).trans (sort_at l (iotaInDim S2048x8 32 1) b _).2

end Cert.ReferenceIdeal.Pf
-- ==== Proof.Val.RefVal.lean ====
/- The reference's result at an index, from real arguments. -/
module

public import proofs.«01_k».proof.Proof.Val.Ref
public import proofs.«01_k».proof.Proof.Val.Scat

@[expose] public section

set_option maxRecDepth 16384

noncomputable section

namespace Cert.ReferenceIdeal.Pf

open Cert.ReferenceIdeal Cert.ReferenceIdeal.Gen Cert.ReferenceIdeal.Value
open Idealize.ShloMosaic Idealize.ShloMosaic.TcCoe Idealize.ShloMosaic.Tactic
open Cert.Val (mx am msk gt dense soft expert logEps Rl)

/-- What the two picks of a row of real scores are. -/
theorem pl_facts (l : Fin 8 → EReal) (hl : ∀ e, Rl (l e)) : am l = BitVec.ofNat 32 (pl l 0).val ∧ mx l = l (pl l 0) ∧ am (msk l (am l)) = BitVec.ofNat 32 (pl l 1).val
    ∧ mx (msk l (am l)) = l (pl l 1) ∧ pl l 0 ≠ pl l 1 ∧ l (pl l 1) ≤ l (pl l 0) := Val.picks l hl (Rr l) (Rr_iff l)

/-- The softmax of two real scores, the first the greater. -/
theorem gates2_eq (v : FVec Ideal S2048x2 .f32) (b : Fin 2048) (h0 : Rl (v (ix2 b 0))) (h1 : Rl (v (ix2 b 1))) (hle : v (ix2 b 1) ≤ v (ix2 b 0)) :
    gates2 v (ix2 b 0) = gt (v (ix2 b 0)) (v (ix2 b 1)) ∧ gates2 v (ix2 b 1) = gt (v (ix2 b 1)) (v (ix2 b 0)) := by
  have hm : (mx fun j : Fin 2 => v (ix2 b j)) = v (ix2 b 0) := Val.mx_eq _ 0 fun e => by
    fin_cases e
    · exact le_refl _
    · exact hle
  constructor
  · rw [gates2_at, hm, Fin.sum_univ_two, Val.gate_eq _ _ _ h0 h1 (.inl rfl), if_pos rfl]
  · rw [gates2_at, hm, Fin.sum_univ_two, Val.gate_eq _ _ _ h0 h1 (.inr rfl)]
    split
    · next h => rw [h]
    · rfl

variable (x : FVec Ideal S2048x1024 .f32) (wg : FVec Ideal S1024x8 .f32) (w1 : FVec Ideal S8x1024x2048 .f32) (b1 : FVec Ideal S8x2048 .f32) (w2 : FVec Ideal S8x2048x1024 .f32)
  (b2 : FVec Ideal S8x1024 .f32)

/-- A token's scores. -/
def lgR (b : Fin 2048) (e : Fin 8) : EReal := ∑ k, x (ix2 b k) * wg (ix2 k e)

/-- A token's row through an expert. -/
def exR (b : Fin 2048) (e : Fin 8) : Fin 1024 → EReal :=
  expert (fun d => x (ix2 b d)) (fun d h => w1 (ix3 e d h)) (fun h => b1 (ix2 e h)) (fun h o => w2 (ix3 e h o)) (fun o => b2 (ix2 e o))

theorem all_at (hx : ∀ i, Rl (x i)) (hg : ∀ i, Rl (wg i)) (h1 : ∀ i, Rl (w1 i)) (hb1 : ∀ i, Rl (b1 i)) (h2 : ∀ i, Rl (w2 i)) (hb2 : ∀ i, Rl (b2 i)) (b : Fin 2048) (o : Fin 1024) :
    all x wg w1 b1 w2 b2 (ix2 b o)
      = logEps (exR x w1 b1 w2 b2 b (pl (lgR x wg b) 0) o * gt (lgR x wg b (pl (lgR x wg b) 0)) (lgR x wg b (pl (lgR x wg b) 1))
          + exR x w1 b1 w2 b2 b (pl (lgR x wg b) 1) o * gt (lgR x wg b (pl (lgR x wg b) 1)) (lgR x wg b (pl (lgR x wg b) 0))) := by
  have hrow : ∀ a, (fun e => logit x wg (ix2 a e)) = lgR x wg a := fun a => funext fun e => logit_at x wg a e
  have hl : ∀ a e, Rl (lgR x wg a e) := fun a e => Rl.sum _ _ fun k _ => (hx _).mul (hg _)
  have htop : ∀ a k, tops (logit x wg) (ix2 a k) = lgR x wg a (pl (lgR x wg a) k) := fun a k => by
    rw [(topK_at (logit x wg) a k).1, hrow, logit_at]; rfl
  have hidx : ∀ a k, idx (logit x wg) (ix2 a k) = BitVec.ofNat 32 (pl (lgR x wg a) k).val := fun a k => by
    rw [(topK_at (logit x wg) a k).2, hrow]
  have hg8 := gates8_at (idx (logit x wg)) (gates2 (tops (logit x wg))) (fun a k => pl (lgR x wg a) k) hidx (fun a => (pl_facts _ (hl a)).2.2.2.2.1) b
  have hg2 := gates2_eq (tops (logit x wg)) b (by rw [htop]; exact hl _ _) (by rw [htop]; exact hl _ _) (by rw [htop, htop]; exact (pl_facts _ (hl b)).2.2.2.2.2)
  have hsoft : ∀ e, Ideal.exp (logp (rows x w1 b1 w2 b2) (ix3 e b o)) = exR x w1 b1 w2 b2 b e o := fun e => by
    rw [logp_at]
    have hr : (fun k : Fin 1024 => rows x w1 b1 w2 b2 (ix3 e b k)) = dense (Ideal.ofBits .f32 0x3F000000#32) (Ideal.ofBits .f32 0x3F3504F3#32) (fun d => x (ix2 b d))
        (fun d h => w1 (ix3 e d h)) (fun h => b1 (ix2 e h)) (fun h o => w2 (ix3 e h o)) (fun o => b2 (ix2 e o)) := funext fun k => rows_at x w1 b1 w2 b2 e b k
    refine (Val.soft_eq (fun k : Fin 1024 => rows x w1 b1 w2 b2 (ix3 e b k)) (fun k => ?_) o).trans ?_
    · rw [rows_at x w1 b1 w2 b2 e b k]
      exact Rl.dense Rl.half Rl.rsqrt2 (fun _ => hx _) (fun _ _ => h1 _) (fun _ => hb1 _) (fun _ _ => h2 _) (fun _ => hb2 _) k
    · rw [hr]; rfl
  unfold all
  rw [last_at, comb_at]
  unfold logEps
  have hs : (∑ e : Fin 8, Ideal.exp (logp (rows x w1 b1 w2 b2) (ix3 e b o)) * gates8 (idx (logit x wg)) (gates2 (tops (logit x wg))) (ix2 b e))
      = exR x w1 b1 w2 b2 b (pl (lgR x wg b) 0) o * gt (lgR x wg b (pl (lgR x wg b) 0)) (lgR x wg b (pl (lgR x wg b) 1))
          + exR x w1 b1 w2 b2 b (pl (lgR x wg b) 1) o * gt (lgR x wg b (pl (lgR x wg b) 1)) (lgR x wg b (pl (lgR x wg b) 0)) := by
    rw [Val.sum_two _ _ _ (pl_facts _ (hl b)).2.2.2.2.1 fun e he0 he1 => by rw [hg8.2 e he0 he1, mul_zero]]
    rw [hsoft, hsoft, hg8.1 0, hg8.1 1, hg2.1, hg2.2, htop, htop]
  rw [hs]

end Cert.ReferenceIdeal.Pf
-- ==== Proof.Disp.Places.lean ====
/- Sorting picks by expert and giving each expert whole blocks of rows: where each sorted pick goes, as natural numbers. -/
module

public import Idealize.ShloMosaic.Lib.Routing.Count

@[expose] public section

namespace Cert.Disp

open Idealize.ShloMosaic

/-- The sum of the first `k` values. -/
def psum (f : ℕ → ℕ) (k : ℕ) : ℕ := ((List.range k).map f).sum

theorem psum_zero (f : ℕ → ℕ) : psum f 0 = 0 := rfl
theorem psum_succ (f : ℕ → ℕ) (k : ℕ) : psum f (k + 1) = psum f k + f k := by
  simp [psum, List.range_succ]

theorem psum_mono (f : ℕ → ℕ) {a b : ℕ} (h : a ≤ b) : psum f a ≤ psum f b := by
  induction h with
  | refl => exact le_rfl
  | step _ ih => exact ih.trans (by rw [psum_succ]; exact Nat.le_add_right _ _)

/-- The picks of one expert. -/
def cnt (N : ℕ) (e : ℕ → ℕ) (k : ℕ) : ℕ := Nat.count (fun a => e a = k) N

/-- The picks of the experts before one. -/
def below (N : ℕ) (e : ℕ → ℕ) (k : ℕ) : ℕ := psum (cnt N e) k

/-- The blocks one expert needs. -/
def blk (N T : ℕ) (e : ℕ → ℕ) (k : ℕ) : ℕ := (cnt N e k + (T - 1)) / T

/-- The blocks of the experts before one. -/
def first (N T : ℕ) (e : ℕ → ℕ) (k : ℕ) : ℕ := psum (blk N T e) k

/-- The row of the `j`-th sorted pick, of expert `k`. -/
def row (N T : ℕ) (e : ℕ → ℕ) (k j : ℕ) : ℕ := T * first N T e k + (j - below N e k)

theorem count_or (N : ℕ) (e : ℕ → ℕ) (k : ℕ) : Nat.count (fun a => e a < k + 1) N = Nat.count (fun a => e a < k) N + Nat.count (fun a => e a = k) N := by
  induction N with
  | zero => rfl
  | succ N ih =>
    rw [Nat.count_succ, Nat.count_succ, Nat.count_succ, ih]
    split_ifs <;> omega

theorem below_eq (N : ℕ) (e : ℕ → ℕ) (k : ℕ) : below N e k = Nat.count (fun a => e a < k) N := by
  induction k with
  | zero => simp [below, psum, Nat.count_eq_card_filter_range]
  | succ k ih => rw [below, psum_succ, ← below, ih, count_or]; rfl

theorem blk_mul (N T : ℕ) (hT : 0 < T) (e : ℕ → ℕ) (k : ℕ) : cnt N e k ≤ T * blk N T e k := by
  have := Nat.div_add_mod (cnt N e k + (T - 1)) T
  have := Nat.mod_lt (cnt N e k + (T - 1)) hT
  unfold blk
  omega

theorem first_mul_le (N T : ℕ) (hT : 0 < T) (e : ℕ → ℕ) (k : ℕ) : T * first N T e k ≤ below N e k + T * k := by
  induction k with
  | zero => simp [first, psum]
  | succ k ih =>
    have h := Nat.div_mul_le_self (cnt N e k + (T - 1)) T
    rw [first, below, psum_succ, psum_succ, ← first, ← below]
    have h2 : T * blk N T e k ≤ cnt N e k + (T - 1) := by unfold blk; rwa [Nat.mul_comm]
    rw [Nat.mul_add, Nat.mul_add]
    omega

variable {N : ℕ} (T E : ℕ) (hT : 0 < T) (e : ℕ → ℕ) (σ : Fin N → Fin N) (hσ : Function.Injective σ)
  (hs : ∀ i j : Fin N, i < j → ¬ e (σ j).val < e (σ i).val)

include hσ in
/-- Counting through the sort counts the same. -/
theorem count_sorted (P : ℕ → Prop) [DecidablePred P] : (Finset.univ.filter fun j : Fin N => P (σ j).val).card = Nat.count P N := by
  rw [← Routing.card_filter_fin N P]
  have hb : Function.Bijective σ := Finite.injective_iff_bijective.mp hσ
  refine Finset.card_bij (fun j _ => σ j) (fun j hj => ?_) (fun a _ b _ h => hσ h) (fun b hb' => ?_)
  · exact Finset.mem_filter.mpr ⟨Finset.mem_univ _, (Finset.mem_filter.mp hj).2⟩
  · obtain ⟨a, rfl⟩ := hb.2 b
    exact ⟨a, Finset.mem_filter.mpr ⟨Finset.mem_univ _, (Finset.mem_filter.mp hb').2⟩, rfl⟩

include hσ hs in
/-- A sorted pick comes after every pick of an earlier expert. -/
theorem below_le (j : Fin N) : below N e (e (σ j).val) ≤ j.val := by
  rw [below_eq, ← count_sorted σ hσ]
  refine (Finset.card_le_card (t := Finset.univ.filter fun i : Fin N => i < j) fun i hi => ?_).trans ?_
  · refine Finset.mem_filter.mpr ⟨Finset.mem_univ _, ?_⟩
    have hlt := (Finset.mem_filter.mp hi).2
    by_contra hij
    rcases (not_lt.mp hij).lt_or_eq with h | h
    · exact hs j i h hlt
    · subst h; exact lt_irrefl _ hlt
  · have : (Finset.univ.filter fun i : Fin N => i < j) = Finset.Iio j := by ext i; simp
    rw [this, Fin.card_Iio]

include hσ hs in
/-- A sorted pick comes before every pick of a later expert. -/
theorem lt_below (j : Fin N) : j.val < below N e (e (σ j).val + 1) := by
  rw [below_eq, ← count_sorted σ hσ]
  refine lt_of_lt_of_le ?_ (Finset.card_le_card (s := Finset.univ.filter fun i : Fin N => i ≤ j) fun i hi => ?_)
  · have : (Finset.univ.filter fun i : Fin N => i ≤ j) = Finset.Iic j := by ext i; simp
    rw [this, Fin.card_Iic]; exact Nat.lt_succ_self _
  · refine Finset.mem_filter.mpr ⟨Finset.mem_univ _, ?_⟩
    rcases ((Finset.mem_filter.mp hi).2).lt_or_eq with h | h
    · have := hs i j h; omega
    · subst h; omega

/-- The row of the `j`-th sorted pick. -/
def place (j : Fin N) : ℕ := row N T e (e (σ j).val) j.val

include hT hσ hs in
theorem place_bounds (j : Fin N) : T * first N T e (e (σ j).val) ≤ place T e σ j ∧ place T e σ j < T * first N T e (e (σ j).val + 1) := by
  have h1 := below_le e σ hσ hs j
  have h2 := lt_below e σ hσ hs j
  rw [below, psum_succ, ← below] at h2
  have h3 := blk_mul N T hT e (e (σ j).val)
  refine ⟨Nat.le_add_right _ _, ?_⟩
  rw [place, row, show first N T e (e (σ j).val + 1) = first N T e (e (σ j).val) + blk N T e (e (σ j).val) from psum_succ _ _, Nat.mul_add]
  omega

include hT hσ hs in
theorem place_div (j : Fin N) : first N T e (e (σ j).val) ≤ place T e σ j / T ∧ place T e σ j / T < first N T e (e (σ j).val + 1) := by
  have h := place_bounds T hT e σ hσ hs j
  refine ⟨(Nat.le_div_iff_mul_le hT).mpr ?_, (Nat.div_lt_iff_lt_mul hT).mpr ?_⟩
  · rw [Nat.mul_comm]; exact h.1
  · rw [Nat.mul_comm]; exact h.2

include hT hσ hs in
theorem place_lt (hE : ∀ a : Fin N, e a.val < E) (j : Fin N) : place T e σ j < N + T * E := by
  have h := (place_bounds T hT e σ hσ hs j).2
  have h1 : T * first N T e (e (σ j).val + 1) ≤ T * first N T e E := Nat.mul_le_mul_left _ (psum_mono _ (hE _))
  have h2 := first_mul_le N T hT e E
  have h3 : below N e E ≤ N := by rw [below_eq]; exact Nat.count_le _
  omega

include hT hσ hs in
theorem place_inj : Function.Injective (place T e σ) := by
  intro i j hij
  have key : ∀ i j : Fin N, e (σ i).val < e (σ j).val → place T e σ i ≠ place T e σ j := fun i j h => by
    have h1 := (place_bounds T hT e σ hσ hs i).2
    have h2 := (place_bounds T hT e σ hσ hs j).1
    have h3 : T * first N T e (e (σ i).val + 1) ≤ T * first N T e (e (σ j).val) := Nat.mul_le_mul_left _ (psum_mono _ h)
    omega
  have he : e (σ i).val = e (σ j).val := by
    rcases lt_trichotomy (e (σ i).val) (e (σ j).val) with h | h | h
    · exact absurd hij (key i j h)
    · exact h
    · exact absurd hij.symm (key j i h)
  have h1 := below_le e σ hσ hs i
  have h2 := below_le e σ hσ hs j
  unfold place row at hij
  rw [he] at hij h1
  exact Fin.ext (by omega)

/-- The block ends at or below a block's number count the experts before its own. -/
theorem count_ends (f : ℕ → ℕ) (k p : ℕ) (hk : k < E) (h1 : psum f k ≤ p) (h2 : p < psum f (k + 1)) : Nat.count (fun q => psum f (q + 1) ≤ p) E = k := by
  have hiff : ∀ q, psum f (q + 1) ≤ p ↔ q < k := fun q => ⟨fun h => by
    by_contra hq
    have := psum_mono f (show k + 1 ≤ q + 1 by omega)
    omega, fun h => (psum_mono f (show q + 1 ≤ k from h)).trans h1⟩
  rw [Nat.count_eq_card_filter_range]
  have : (Finset.range E).filter (fun q => psum f (q + 1) ≤ p) = Finset.range k := by
    ext q; simp only [Finset.mem_filter, Finset.mem_range, hiff]; omega
  rw [this, Finset.card_range]

end Cert.Disp

end
-- ==== Proof.Disp.Words.lean ====
/- The host's dispatch of the picks, as functions of the experts' numbers and the gates, and what each reads at an index. -/
module

public import proofs.«01_k».proof.Proof.KI.Table
public import proofs.«01_k».proof.Proof.Disp.Places
public import Idealize.ShloMosaic.Lib.Routing.OpsOne
public import Idealize.ShloMosaic.Lib.Routing.OpsPair
public import Idealize.ShloMosaic.Lib.Routing.OpsSearch
public import Idealize.ShloMosaic.Lib.SortFacts

@[expose] public section

set_option maxRecDepth 16384

noncomputable section

namespace Cert.KernelIdealPf

open Cert.KernelIdeal hiding ix1
open Cert.KernelIdeal.Gen
open Idealize.ShloMosaic hiding ix1 ix2 ix3
open Idealize.ShloMosaic.TcCoe Idealize.ShloMosaic.Tactic
open Idealize.ShloMosaic.ValueIdx

/-! ## The functions -/

/-- The picks in the order of their experts. -/
def order (v1 : IVec S4096 32) : IVec S4096 32 := (Host.sort2 S4096 0 comparator_i32_i32_d0 v1 (iotaInDim S4096 32 0)).2

/-- A negative index counts from the end; the result as a column of index words. -/
def col (n : BitVec 32) (v : IVec S4096 32) : IVec S4096x1 32 :=
  broadcastInDim S4096x1 ![0] bcast_S4096_S4096x1_0
    (select (cmpi .slt v (broadcastInDim S4096 ![] bcast_S_S4096 (constantI S_ 32 0#32))) (addi v (broadcastInDim S4096 ![] bcast_S_S4096 (constantI S_ 32 n))) v)

/-- How many picks each expert has. -/
def counts (v1 : IVec S4096 32) : IVec S8 32 :=
  Host.reduce IntOp.addi (extui 32 (cmpi .eq (broadcastInDim S8x4096 ![0, 1] bcast_S1x4096_S8x4096_0_1 (broadcastInDim S1x4096 ![1] bcast_S4096_S1x4096_1 v1))
    (broadcastInDim S8x4096 ![0, 1] bcast_S8x1_S8x4096_0_1 (broadcastInDim S8x1 ![0] bcast_S8_S8x1_0 (iotaInDim S8 32 0)))) natLt_1_32)
    (constantI S_ 32 0#32) reducesTo_S8x4096_S8_d1 h_S_

/-- The quotient rounded down, over any shape. -/
def fdiv (s : Shape) (hb : S_.BroadcastsInDim s (![] : Fin 0 → Fin s.rank)) (x : IVec s 32) (d : IVec S_ 32) : IVec s 32 :=
  select (andi (cmpi .ne (signi x) (broadcastInDim s ![] hb (signi d)))
      (cmpi .ne (Host.remsi x (broadcastInDim s ![] hb d)) (broadcastInDim s ![] hb (constantI S_ 32 0#32))))
    (subi (Host.divsi x (broadcastInDim s ![] hb d)) (broadcastInDim s ![] hb (constantI S_ 32 1#32))) (Host.divsi x (broadcastInDim s ![] hb d))

/-- How many blocks each expert needs. -/
def blocks (cn : IVec S8 32) : IVec S8 32 :=
  fdiv S8 bcast_S_S8 (subi (addi cn (broadcastInDim S8 ![] bcast_S_S8 (constantI S_ 32 256#32))) (broadcastInDim S8 ![] bcast_S_S8 (constantI S_ 32 1#32))) (constantI S_ 32 256#32)

/-- The running sum. -/
def csum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- The experts' block ends. -/
def endsW (v1 : IVec S4096 32) : IVec S8 32 := csum (blocks (counts v1))

/-- The experts of the sorted picks. -/
def sortedE (v1 : IVec S4096 32) : IVec S4096 32 := Host.gather gather_S4096_S4096x1_S4096_n_0_n_n_0_1_1 v1 (col 4096#32 (order v1))

/-- The rows of the sorted picks. -/
def rowW (v1 : IVec S4096 32) : IVec S4096 32 :=
  addi (Host.gather gather_S8_S4096x1_S4096_n_0_n_n_0_1_1
      (muli (subi (endsW v1) (blocks (counts v1))) (broadcastInDim S8 ![] bcast_S_S8 (constantI S_ 32 256#32))) (col 8#32 (sortedE v1)))
    (subi (iotaInDim S4096 32 0) (Host.gather gather_S8_S4096x1_S4096_n_0_n_n_0_1_1 (subi (csum (counts v1)) (counts v1)) (col 8#32 (sortedE v1))))

/-- The pick of each row. -/
def asgnW (v1 : IVec S4096 32) : IVec S6144 32 :=
  Host.scatter scatter_S6144_S4096x1_S4096_n_0_0_1 (fun _ b => b) (broadcastInDim S6144 ![] bcast_S_S6144 (constantI S_ 32 0#32)) (col 6144#32 (rowW v1)) (order v1)

/-- The gate of each row. -/
def gateW {F : FTy → Type} [FloatOps F] (v1 : IVec S4096 32) (v2 : FVec F S4096 .f32) : FVec F S6144 .f32 :=
  Host.scatter scatter_S6144_S4096x1_S4096_n_0_0_1 (fun _ b => b) (broadcastInDim S6144 ![] bcast_S_S6144 (constant S_ .f32 0x00000000#32)) (col 6144#32 (rowW v1))
    (Host.gather gather_S4096_S4096x1_S4096_n_0_n_n_0_1_1 v2 (col 4096#32 (order v1)))

/-- The row of each pick. -/
def posW (v1 : IVec S4096 32) : IVec S4096 32 :=
  Host.scatter scatter_S4096_S4096x1_S4096_n_0_0_1 (fun _ b => b) (broadcastInDim S4096 ![] bcast_S_S4096 (constantI S_ 32 0#32)) (col 4096#32 (order v1)) (rowW v1)

/-! ## What they read -/

theorem order_spec (v1 : IVec S4096 32) (e : ℕ → ℕ) (hv : ∀ a : Fin 4096, v1 (ix1 a) = BitVec.ofNat 32 (e a.val)) (he : ∀ a : Fin 4096, e a.val < 8) :
    ∃ σ : Fin 4096 → Fin 4096, Function.Injective σ ∧ (∀ i j : Fin 4096, i < j → ¬ e (σ j).val < e (σ i).val) ∧ ∀ j : Fin 4096, order v1 (ix1 j) = BitVec.ofNat 32 (σ j).val := by
  let before : Fin 4096 → Fin 4096 → Bool := fun k k' => comparator_i32_i32_d0 (v1 (ix1 k), BitVec.ofNat 32 k.val) (v1 (ix1 k'), BitVec.ofNat 32 k'.val) == 1#1
  have hbef : ∀ k k', before k k' = decide (e k.val < e k'.val) := fun k k' => by
    show (IntOp.cmpi .slt (v1 (ix1 k)) (v1 (ix1 k')) == 1#1) = _
    rw [hv, hv]
    show (BitVec.ofBool ((BitVec.ofNat 32 (e k.val)).slt (BitVec.ofNat 32 (e k'.val))) == 1#1) = _
    rw [Routing.slt_ofNat32 (by have := he k; omega) (by have := he k'; omega)]
    cases decide (e k.val < e k'.val) <;> rfl
  refine ⟨sortedFrom before, sortedFrom_injective before, fun i j hij => ?_, fun j => ?_⟩
  · have := sortedFrom_noInversion before before (fun a b => by simp only [hbef, decide_eq_true_eq, decide_eq_false_iff_not]; omega) (fun _ _ h => h)
      (fun a b c => by simp only [hbef, decide_eq_false_iff_not]; omega) i j hij
    rw [hbef] at this
    exact of_decide_eq_false this
  · have hal : ∀ k : Fin 4096, ((ix1 j : S4096.Idx).along 0 k) = ix1 k := fun k => by
      funext a
      obtain rfl : a = 0 := Subsingleton.elim _ _
      exact Function.update_self _ _ _
    have hbe : (fun k k' : Fin 4096 => comparator_i32_i32_d0 (v1 ((ix1 j : S4096.Idx).along 0 k), iotaInDim S4096 32 0 ((ix1 j : S4096.Idx).along 0 k))
        (v1 ((ix1 j : S4096.Idx).along 0 k'), iotaInDim S4096 32 0 ((ix1 j : S4096.Idx).along 0 k')) == 1#1) = before := by
      funext k k'
      rw [hal, hal]
      rfl
    refine (congrArg (iotaInDim S4096 32 0) (hal _)).trans ?_
    exact congrArg (fun b : Fin 4096 → Fin 4096 → Bool => BitVec.ofNat 32 (sortedFrom b j).val) hbe

theorem col_ap (n : BitVec 32) (v : IVec S4096 32) (p : Fin 4096) {k : ℕ} (hk : k < 2 ^ 31) (hv : v (ix1 p) = BitVec.ofNat 32 k) :
    col n v (ix2 p (0 : Fin 1)) = BitVec.ofNat 32 k := by
  unfold col
  rw [Routing.bcCol (n := 4096) bcast_S4096_S4096x1_0 _ p]
  show Scalar.select (IntOp.cmpi .slt (v (ix1 p)) 0#32) _ (v (ix1 p)) = _
  rw [Routing.wrap_of_lt _ _ (by rw [hv, BitVec.toNat_ofNat]; omega), hv]

theorem counts_ap (v1 : IVec S4096 32) (e : ℕ → ℕ) (hv : ∀ a : Fin 4096, v1 (ix1 a) = BitVec.ofNat 32 (e a.val)) (he : ∀ a : Fin 4096, e a.val < 8) (k : Fin 8) :
    counts v1 (ix1 k) = BitVec.ofNat 32 (Disp.cnt 4096 e k.val) := by
  refine Routing.reduce_count (n := 8) (m := 4096) (by decide) _ natLt_1_32 reducesTo_S8x4096_S8_d1 h_S_ k (fun a => e a = k.val) fun q => ?_
  have e1 := Routing.bcCols (n := 8) (m := 4096) bcast_S4096_S1x4096_1 bcast_S1x4096_S8x4096_0_1 v1 k q
  have e2 := Routing.bcRows (n := 8) (m := 4096) bcast_S8_S8x1_0 bcast_S8x1_S8x4096_0_1 (iotaInDim S8 32 0) k q
  show IntOp.cmpi .eq _ _ = 1#1 ↔ _
  rw [e1, e2, hv]
  show BitVec.ofBool (BitVec.ofNat 32 (e q.val) == BitVec.ofNat 32 k.val) = 1#1 ↔ _
  have h1 := he q
  have h2 := k.isLt
  have : (BitVec.ofNat 32 (e q.val) = BitVec.ofNat 32 k.val) ↔ e q.val = k.val := by
    constructor
    · intro h
      have := congrArg BitVec.toNat h
      simp only [BitVec.toNat_ofNat] at this
      omega
    · intro h; rw [h]
  rw [← this]
  by_cases h : BitVec.ofNat 32 (e q.val) = BitVec.ofNat 32 k.val
  · simp [h]
  · rw [beq_false_of_ne h]; simp [h]

theorem fdiv_ap (s : Shape) (hb : S_.BroadcastsInDim s (![] : Fin 0 → Fin s.rank)) (x : IVec s 32) (b : ℕ) (h0 : 0 < b) (hb31 : b < 2 ^ 31) (j : s.Idx) {a : ℕ} (ha : a < 2 ^ 31)
    (hx : x j = BitVec.ofNat 32 a) : fdiv s hb x (constantI S_ 32 (BitVec.ofNat 32 b)) j = BitVec.ofNat 32 (a / b) :=
  Routing.pyDiv0_ap (fun _ => x j) (fun _ => BitVec.ofNat 32 b) hx rfl ha h0 hb31

theorem blocks_ap (cn : IVec S8 32) (k : Fin 8) {c : ℕ} (hc : c ≤ 4096) (hcn : cn (ix1 k) = BitVec.ofNat 32 c) :
    blocks cn (ix1 k) = BitVec.ofNat 32 ((c + (256 - 1)) / 256) := by
  refine fdiv_ap S8 bcast_S_S8 _ 256 (by decide) (by decide) (ix1 k) (by omega) ?_
  show cn (ix1 k) + 256#32 - 1#32 = _
  rw [hcn, ← BitVec.ofNat_add, show (1#32 : BitVec 32) = BitVec.ofNat 32 1 from rfl, Routing.ofNat32_sub (by omega)]
  congr 1

theorem csum_ap (x : IVec S8 32) (f : ℕ → ℕ) (hx : ∀ k : Fin 8, x (ix1 k) = BitVec.ofNat 32 (f k.val)) (k : Fin 8) :
    csum x (ix1 k) = BitVec.ofNat 32 (Disp.psum f (k.val + 1)) :=
  Routing.cumsum1 (N := 8) (Nm1 := 7) rfl x f hx _ rfl reduceWindows_S8_S8_w8s1p7_0 h_S_ k

theorem lands {M : ℕ} (d : ScatterDims (Routing.shape1 M) S4096x1 S4096) (huw : d.updateWindowDims = []) (hiw : d.insertedWindowDims = [0])
    (hsd : d.scatterDimsToOperandDims = [0]) (hivd : d.indexVectorDim = 1) (idx : IVec S4096x1 32) (i : Fin 4096) (x : Fin M) :
    d.resultIdx? (ix1 i) idx = some (ix1 x) ↔ (idx (ix2 i (0 : Fin 1))).toInt = (x.val : Int) := by
  rw [Routing.resultIdx?_ix1]
  have hw : d.window (ix1 i) 0 = 0 := by
    unfold ScatterDims.window
    exact dif_neg fun h => (of_decide_eq_true (List.mem_filter.1 h).2) (by rw [hiw]; exact List.mem_singleton.2 rfl)
  have hst : d.start (ix1 i) idx 0 = (idx (ix2 i (0 : Fin 1))).toInt := by
    obtain ⟨uw, iw, sd, iv, wf⟩ := d
    cases huw; cases hiw; cases hsd; cases hivd
    refine congrArg (fun k => (idx k).toInt) (funext fun b => Fin.ext ?_)
    match b with
    | ⟨0, _⟩ => rfl
    | ⟨1, _⟩ => rfl
  rw [hst, hw]
  simp

section
variable (v1 : IVec S4096 32) (e : ℕ → ℕ) (hv : ∀ a : Fin 4096, v1 (ix1 a) = BitVec.ofNat 32 (e a.val)) (he : ∀ a : Fin 4096, e a.val < 8)

include hv he in
theorem blocksC_ap (k : Fin 8) : blocks (counts v1) (ix1 k) = BitVec.ofNat 32 (Disp.blk 4096 256 e k.val) :=
  blocks_ap _ k (Nat.count_le _) (counts_ap v1 e hv he k)

include hv he in
theorem ends_ap (k : Fin 8) : endsW v1 (ix1 k) = BitVec.ofNat 32 (Disp.first 4096 256 e (k.val + 1)) :=
  csum_ap _ _ (blocksC_ap v1 e hv he) k

variable (σ : Fin 4096 → Fin 4096) (hσ : Function.Injective σ) (hs : ∀ i j : Fin 4096, i < j → ¬ e (σ j).val < e (σ i).val)
  (ho : ∀ j : Fin 4096, order v1 (ix1 j) = BitVec.ofNat 32 (σ j).val)

include ho in
theorem colOrder_ap (n : BitVec 32) (j : Fin 4096) : col n (order v1) (ix2 j (0 : Fin 1)) = BitVec.ofNat 32 (σ j).val :=
  col_ap n _ j (by have := (σ j).isLt; omega) (ho j)

include hv ho in
theorem sortedE_ap (j : Fin 4096) : sortedE v1 (ix1 j) = BitVec.ofNat 32 (e (σ j).val) :=
  (Routing.take_ap (N := 4096) (n := 4096) gather_S4096_S4096x1_S4096_n_0_n_n_0_1_1 rfl rfl rfl rfl v1 _ j (σ j).isLt (by have := (σ j).isLt; omega)
    (colOrder_ap v1 σ ho _ j)).trans (hv _)

include hv he ho in
theorem take8_ap (x : IVec S8 32) (j : Fin 4096) :
    Host.gather gather_S8_S4096x1_S4096_n_0_n_n_0_1_1 x (col 8#32 (sortedE v1)) (ix1 j) = x (ix1 ⟨e (σ j).val, he _⟩) :=
  Routing.take_ap (N := 8) (n := 4096) gather_S8_S4096x1_S4096_n_0_n_n_0_1_1 rfl rfl rfl rfl x _ j (he _) (by have := he (σ j); omega)
    (col_ap _ _ j (by have := he (σ j); omega) (sortedE_ap v1 e hv σ ho j))

include hv he hσ hs ho in
theorem row_ap (j : Fin 4096) : rowW v1 (ix1 j) = BitVec.ofNat 32 (Disp.place 256 e σ j) := by
  unfold rowW
  show Host.gather gather_S8_S4096x1_S4096_n_0_n_n_0_1_1 _ _ (ix1 j) + (BitVec.ofNat 32 j.val - Host.gather gather_S8_S4096x1_S4096_n_0_n_n_0_1_1 _ _ (ix1 j)) = _
  rw [take8_ap v1 e hv he σ ho, take8_ap v1 e hv he σ ho]
  show (endsW v1 (ix1 ⟨e (σ j).val, he _⟩) - blocks (counts v1) (ix1 ⟨e (σ j).val, he _⟩)) * 256#32
    + (BitVec.ofNat 32 j.val - (csum (counts v1) (ix1 ⟨e (σ j).val, he _⟩) - counts v1 (ix1 ⟨e (σ j).val, he _⟩))) = _
  rw [ends_ap v1 e hv he, blocksC_ap v1 e hv he, csum_ap _ _ (counts_ap v1 e hv he), counts_ap v1 e hv he]
  have h1 := Disp.below_le e σ hσ hs j
  rw [show Disp.first 4096 256 e (e (σ j).val + 1) = Disp.first 4096 256 e (e (σ j).val) + Disp.blk 4096 256 e (e (σ j).val) from Disp.psum_succ _ _,
    show Disp.psum (Disp.cnt 4096 e) (e (σ j).val + 1) = Disp.below 4096 e (e (σ j).val) + Disp.cnt 4096 e (e (σ j).val) from Disp.psum_succ _ _, Routing.ofNat32_sub (Nat.le_add_left _ _), Routing.ofNat32_sub (Nat.le_add_left _ _), Nat.add_sub_cancel, Nat.add_sub_cancel,
    Routing.ofNat32_sub h1, ← BitVec.ofNat_mul, ← BitVec.ofNat_add, Nat.mul_comm]
  rfl

include hσ hs he in
theorem place_lt (j : Fin 4096) : Disp.place 256 e σ j < 6144 := Disp.place_lt 256 8 (by decide) e σ hσ hs he j

include hv he hσ hs ho in
theorem colRow_ap (n : BitVec 32) (j : Fin 4096) : col n (rowW v1) (ix2 j (0 : Fin 1)) = BitVec.ofNat 32 (Disp.place 256 e σ j) :=
  col_ap n _ j (by have := place_lt e he σ hσ hs j; omega) (row_ap v1 e hv he σ hσ hs ho j)

theorem ofNat_toInt_eq {a b : ℕ} (ha : a < 2 ^ 31) : (BitVec.ofNat 32 a).toInt = (b : ℤ) ↔ a = b := by
  rw [StableHlo.Predicate.toInt_ofNat_small _ ha]; omega

include hv he hσ hs ho in
/-- A value scattered to the picks' rows is read back at a pick's row. -/
theorem scatterRow_ap {α : Type} (x0 : S6144.Idx → α) (upd : S4096.Idx → α) (j : Fin 4096) :
    Host.scatter scatter_S6144_S4096x1_S4096_n_0_0_1 (fun _ b => b) x0 (col 6144#32 (rowW v1)) upd (ix1 ⟨Disp.place 256 e σ j, place_lt e he σ hσ hs j⟩) = upd (ix1 j) := by
  have hl : ∀ i : Fin 4096, scatter_S6144_S4096x1_S4096_n_0_0_1.resultIdx? (ix1 i) (col 6144#32 (rowW v1)) = some (ix1 ⟨Disp.place 256 e σ j, place_lt e he σ hσ hs j⟩) ↔ i = j := fun i => by
    refine (lands (M := 6144) scatter_S6144_S4096x1_S4096_n_0_0_1 rfl rfl rfl rfl _ i _).trans ?_
    rw [colRow_ap v1 e hv he σ hσ hs ho, ofNat_toInt_eq (by have := place_lt e he σ hσ hs i; omega)]
    exact (Disp.place_inj 256 (by decide) e σ hσ hs).eq_iff
  refine Routing.scatter_set_hit _ x0 _ upd _ _ (fun k hk => ?_) (ix1 j) ((hl j).mpr rfl)
  obtain ⟨i, rfl⟩ : ∃ i : Fin 4096, k = ix1 i := ⟨k 0, ValueIdx.eq_ix1 k⟩
  rw [(hl i).mp hk]

include hσ ho in
/-- A value scattered back to the picks is read at a pick. -/
theorem scatterPick_ap {α : Type} (x0 : S4096.Idx → α) (upd : S4096.Idx → α) (j : Fin 4096) :
    Host.scatter scatter_S4096_S4096x1_S4096_n_0_0_1 (fun _ b => b) x0 (col 4096#32 (order v1)) upd (ix1 (σ j)) = upd (ix1 j) := by
  have hl : ∀ i : Fin 4096, scatter_S4096_S4096x1_S4096_n_0_0_1.resultIdx? (ix1 i) (col 4096#32 (order v1)) = some (ix1 (σ j)) ↔ i = j := fun i => by
    refine (lands (M := 4096) scatter_S4096_S4096x1_S4096_n_0_0_1 rfl rfl rfl rfl _ i _).trans ?_
    rw [colOrder_ap v1 σ ho, ofNat_toInt_eq (by have := (σ i).isLt; omega)]
    exact (Fin.ext_iff.symm).trans hσ.eq_iff
  refine Routing.scatter_set_hit _ x0 _ upd _ _ (fun k hk => ?_) (ix1 j) ((hl j).mpr rfl)
  obtain ⟨i, rfl⟩ : ∃ i : Fin 4096, k = ix1 i := ⟨k 0, ValueIdx.eq_ix1 k⟩
  rw [(hl i).mp hk]

include hv he in
/-- The block of expert `k`'s rows is handed expert `k`. -/
theorem blockExpert_ends (p : Fin 24) (k : ℕ) (hk : k < 8) (h1 : Disp.first 4096 256 e k ≤ p.val) (h2 : p.val < Disp.first 4096 256 e (k + 1)) :
    blockExpert (endsW v1) (ix1 p) = BitVec.ofNat 32 k := by
  rw [blockExpert_count (endsW v1) p (fun q => Disp.first 4096 256 e (q + 1) ≤ p.val) fun q => ?_, show Nat.count (fun q => Disp.first 4096 256 e (q + 1) ≤ p.val) 8 = k from Disp.count_ends 8 _ k p.val hk h1 h2]
  · clear h1 h2; revert k; decide
  · rw [ends_ap v1 e hv he]
    have hb : Disp.first 4096 256 e (q.val + 1) < 2 ^ 31 := by
      have := Disp.first_mul_le 4096 256 (by decide) e (q.val + 1)
      have h3 : Disp.below 4096 e (q.val + 1) ≤ 4096 := by rw [Disp.below_eq]; exact Nat.count_le _
      have := q.isLt
      omega
    show BitVec.ofBool ((BitVec.ofNat 32 _).sle (BitVec.ofNat 32 p.val)) = 1#1 ↔ _
    rw [Routing.sle_ofNat32 hb (by have := p.isLt; omega)]
    by_cases h : Disp.first 4096 256 e (q.val + 1) ≤ p.val <;> simp [h]

end

/-- What the dispatch does: each pick has its own row, that row names the pick and carries its gate, and the row's block is handed the pick's expert. -/
theorem dispatch (v1 : IVec S4096 32) (e : ℕ → ℕ) (hv : ∀ a : Fin 4096, v1 (ix1 a) = BitVec.ofNat 32 (e a.val)) (he : ∀ a : Fin 4096, e a.val < 8) :
    ∃ P : Fin 4096 → Fin 6144, ∀ a : Fin 4096, posW v1 (ix1 a) = BitVec.ofNat 32 (P a).val ∧ asgnW v1 (ix1 (P a)) = BitVec.ofNat 32 a.val
      ∧ (∀ (F : FTy → Type) [FloatOps F] (v2 : FVec F S4096 .f32), gateW v1 v2 (ix1 (P a)) = v2 (ix1 a))
      ∧ ∀ h : (P a).val / 256 < 24, blockExpert (endsW v1) (ix1 ⟨(P a).val / 256, h⟩) = BitVec.ofNat 32 (e a.val) := by
  obtain ⟨σ, hσ, hs, ho⟩ := order_spec v1 e hv he
  have hb : Function.Bijective σ := Finite.injective_iff_bijective.mp hσ
  choose τ hτ using hb.2
  refine ⟨fun a => ⟨Disp.place 256 e σ (τ a), place_lt e he σ hσ hs (τ a)⟩, fun a => ⟨?_, ?_, fun F _ v2 => ?_, fun h => ?_⟩⟩
  · have := scatterPick_ap v1 σ hσ ho (broadcastInDim S4096 ![] bcast_S_S4096 (constantI S_ 32 0#32)) (rowW v1) (τ a)
    rw [hτ] at this
    exact this.trans (row_ap v1 e hv he σ hσ hs ho (τ a))
  · refine (scatterRow_ap v1 e hv he σ hσ hs ho _ (order v1) (τ a)).trans ?_
    rw [ho, hτ]
  · refine (scatterRow_ap v1 e hv he σ hσ hs ho _ _ (τ a)).trans ?_
    have := Routing.take_ap (N := 4096) (n := 4096) gather_S4096_S4096x1_S4096_n_0_n_n_0_1_1 rfl rfl rfl rfl v2 _ (τ a) (σ (τ a)).isLt (by have := (σ (τ a)).isLt; omega)
      (colOrder_ap v1 σ ho 4096#32 (τ a))
    refine this.trans ?_
    rw [Fin.eta, hτ]
  · have h1 := Disp.place_div 256 (by decide) e σ hσ hs (τ a)
    rw [hτ] at h1
    exact blockExpert_ends v1 e hv he ⟨_, h⟩ (e a.val) (he a) h1.1 h1.2

end Cert.KernelIdealPf

end
-- ==== Proof.Disp.Reads.lean ====
/- The host lines between the regions, each stretch's results as functions of the router's two results and the arguments. -/
module

public import proofs.«01_k».proof.Proof.Disp.Words

@[expose] public section

set_option maxRecDepth 16384

noncomputable section

namespace Cert.KernelIdealPf

open Cert.KernelIdeal hiding ix1
open Cert.KernelIdeal.Gen
open Idealize.ShloMosaic hiding ix1 ix2 ix3
open Idealize.ShloMosaic.TcCoe Idealize.ShloMosaic.Tactic
open Idealize.ShloMosaic.ValueIdx

variable {F : FTy → Type} [FloatOps F]

/-- The tokens' rows at the given indices; a negative index counts from the end and an index out of bounds reads the fill value. -/
def takeX (x : FVec F S2048x1024 .f32) (i : IVec S6144 32) : FVec F S6144x1024 .f32 :=
  let cl : IVec S6144x1 32 := broadcastInDim S6144x1 ![0] bcast_S6144_S6144x1_0
    (select (cmpi .slt i (broadcastInDim S6144 ![] bcast_S_S6144 (constantI S_ 32 0#32))) (addi i (broadcastInDim S6144 ![] bcast_S_S6144 (constantI S_ 32 2048#32))) i)
  select (broadcastInDim S6144x1024 ![0] bcast_S6144_S6144x1024_0
      (Host.reduce IntOp.andi (andi (cmpi .sge cl (broadcastInDim S6144x1 ![] bcast_S_S6144x1 (constantI S_ 32 0#32)))
        (cmpi .sle cl (broadcastInDim S6144x1 ![0, 1] bcast_S1x1_S6144x1_0_1 (broadcastInDim S1x1 ![1] bcast_S1_S1x1_1 (constantI S1 32 2047#32)))))
        (constantI S_ 1 1#1) reducesTo_S6144x1_S6144_d1 h_S_))
    (Host.gather gather_S2048x1024_S6144x1_S6144x1024_1_0_n_n_0_1_11024 x cl)
    (broadcastInDim S6144x1024 ![] bcast_S_S6144x1024 (constant S_ .f32 0x7FC00000#32))

/-- The experts' rows at each token's two indices, with the same wrap and fill. -/
def takeY (x : FVec F S6144x1024 .f32) (i : IVec S2048x2 32) : FVec F S2048x2x1024 .f32 :=
  let cl : IVec S2048x2x1 32 := broadcastInDim S2048x2x1 ![0, 1] bcast_S2048x2_S2048x2x1_0_1
    (select (cmpi .slt i (broadcastInDim S2048x2 ![] bcast_S_S2048x2 (constantI S_ 32 0#32))) (addi i (broadcastInDim S2048x2 ![] bcast_S_S2048x2 (constantI S_ 32 6144#32))) i)
  select (broadcastInDim S2048x2x1024 ![0, 1] bcast_S2048x2_S2048x2x1024_0_1
      (Host.reduce IntOp.andi (andi (cmpi .sge cl (broadcastInDim S2048x2x1 ![] bcast_S_S2048x2x1 (constantI S_ 32 0#32)))
        (cmpi .sle cl (broadcastInDim S2048x2x1 ![0, 1, 2] bcast_S1x1x1_S2048x2x1_0_1_2 (broadcastInDim S1x1x1 ![2] bcast_S1_S1x1x1_2 (constantI S1 32 6143#32)))))
        (constantI S_ 1 1#1) reducesTo_S2048x2x1_S2048x2_d2 h_S_))
    (Host.gather gather_S6144x1024_S2048x2x1_S2048x2x1024_2_0_n_n_0_2_11024 x cl)
    (broadcastInDim S2048x2x1024 ![] bcast_S_S2048x2x1024 (constant S_ .f32 0x7FC00000#32))

section
variable (U : Valuation τ sig (Elt F))

theorem sort_at : StableHlo.after hostOps1_1 U main_v3 = order (U main_v1) := by
  unfold hostOps1_1; after_reads_simp; simp only [StableHlo.TRef.ofBuf_toBuf]; rfl

theorem div_at : StableHlo.after hostOps1_3 U main_v16 = fdiv S8 bcast_S_S8 (U main_v15) (U main_c_2) := by
  unfold hostOps1_3; after_reads_simp; simp only [StableHlo.TRef.ofBuf_toBuf]; rfl

theorem csum_at : StableHlo.after hostOps1_4 U main_v17 = csum (U main_v16) := by
  unfold hostOps1_4; after_reads_simp; simp -implicitDefEqProofs only [StableHlo.TRef.toBuf, StableHlo.TRef.ofBuf, cast_cast, cast_eq]; unfold csum; with_reducible rfl

theorem csum_at' : StableHlo.after hostOps1_6 U main_v21 = csum (U main_v11) := by
  unfold hostOps1_6; after_reads_simp; simp -implicitDefEqProofs only [StableHlo.TRef.toBuf, StableHlo.TRef.ofBuf, cast_cast, cast_eq]; unfold csum; with_reducible rfl

theorem half_at : StableHlo.after hostOps1_8 U main_v88 = fdiv S6144 bcast_S_S6144 (U main_v54) (U main_c_22) := by
  unfold hostOps1_8; after_reads_simp; simp only [StableHlo.TRef.ofBuf_toBuf]; rfl

set_option maxHeartbeats 1000000 in
theorem takeX_at : StableHlo.after hostOps1_9 U main_v89 = takeX (U main_arg0) (U main_v88) := by
  unfold hostOps1_9; after_reads_simp; simp -implicitDefEqProofs only [StableHlo.TRef.toBuf, StableHlo.TRef.ofBuf, cast_cast, cast_eq]; unfold takeX; with_reducible rfl

set_option maxHeartbeats 1000000 in
theorem takeY_at : StableHlo.after hostOps2_1 U main_v97 = takeY (U main_v95) (U main_v96) := by
  unfold hostOps2_1; after_reads_simp; simp -implicitDefEqProofs only [StableHlo.TRef.toBuf, StableHlo.TRef.ofBuf, cast_cast, cast_eq]; unfold takeY; with_reducible rfl

end

variable (m : (ℓ : Loc nD τ sig) → Buf (Elt F) ℓ) (outs : Outs (F := F))

theorem V1_idx (c : Dev nD) : V1 m outs c main_v0_0 = outs 1 main_v0_0 c := by
  simp only [V1]
  rw [Function.update_of_ne (StableHlo.devRef_ne_of_ne (by decide) : (Proc.devRef .tc main_v0_0 : DevRef τ sig) ≠ Proc.devRef .tc main_v0_1), Function.update_self]

theorem V1_gate (c : Dev nD) : V1 m outs c main_v0_1 = outs 1 main_v0_1 c := by
  simp only [V1]
  rw [Function.update_self]

/-- The experts' numbers and the gates in one line each. -/
def v1W (c : Dev nD) : IVec S4096 32 := shapeCast S4096 (outs 1 main_v0_0 c) shapeCasts_S2048x2_S4096
def v2W (c : Dev nD) : FVec F S4096 .f32 := shapeCast S4096 (outs 1 main_v0_1 c) shapeCasts_S2048x2_S4096

theorem V2_v1 (c : Dev nD) : V2 m outs c main_v1 = v1W outs c := by
  unfold v1W; rw [← V1_idx m outs c]; unfold V2 hostOps1; after_reads_simp; rfl

theorem V2_v2 (c : Dev nD) : V2 m outs c main_v2 = v2W outs c := by
  unfold v2W; rw [← V1_gate m outs c]; unfold V2 hostOps1; after_reads_simp; rfl

theorem V3_v3 (c : Dev nD) : V3 m outs c main_v3 = order (v1W outs c) := by
  rw [← V2_v1 m outs c]; exact sort_at _

theorem V3_v1 (c : Dev nD) : V3 m outs c main_v1 = v1W outs c := (V3_of m outs c main_v1 (by decide)).trans (V2_v1 m outs c)

theorem V4_v11 (c : Dev nD) : V4 m outs c main_v11 = counts (v1W outs c) := by
  rw [← V3_v1 m outs c]; unfold V4 hostOps1_2; after_reads_simp; rfl

theorem V5_v16 (c : Dev nD) : V5 m outs c main_v16 = blocks (counts (v1W outs c)) := by
  have h : V5 m outs c main_v16 = fdiv S8 bcast_S_S8 (V4 m outs c main_v15) (V4 m outs c main_c_2) := div_at _
  have h2 : V4 m outs c main_c_2 = constantI S_ 32 256#32 := by unfold V4 hostOps1_2; after_reads_simp; try rfl
  have h3 : V4 m outs c main_v15 = subi (addi (V4 m outs c main_v11) (broadcastInDim S8 ![] bcast_S_S8 (constantI S_ 32 256#32))) (broadcastInDim S8 ![] bcast_S_S8 (constantI S_ 32 1#32)) := by
    unfold V4 hostOps1_2; after_reads_simp; try rfl
  rw [h, h2, h3, V4_v11]; rfl

theorem V6_v17 (c : Dev nD) : V6 m outs c main_v17 = endsW (v1W outs c) := by
  unfold endsW; rw [← V5_v16 m outs c]; exact csum_at _

theorem V6_v16 (c : Dev nD) : V6 m outs c main_v16 = blocks (counts (v1W outs c)) := (V6_of m outs c main_v16 (by decide)).trans (V5_v16 m outs c)

theorem V7_v20 (c : Dev nD) : V7 m outs c main_v20
    = muli (subi (endsW (v1W outs c)) (blocks (counts (v1W outs c)))) (broadcastInDim S8 ![] bcast_S_S8 (constantI S_ 32 256#32)) := by
  rw [← V6_v17 m outs c, ← V6_v16 m outs c]; unfold V7 hostOps1_5; after_reads_simp; try rfl

theorem V7_v11 (c : Dev nD) : V7 m outs c main_v11 = counts (v1W outs c) :=
  (V7_of m outs c main_v11 (by decide)).trans <| (V6_of m outs c main_v11 (by decide)).trans <| (V5_of m outs c main_v11 (by decide)).trans (V4_v11 m outs c)

theorem V8_v21 (c : Dev nD) : V8 m outs c main_v21 = csum (counts (v1W outs c)) := by
  rw [← V7_v11 m outs c]; exact csum_at' _

theorem V8_v11 (c : Dev nD) : V8 m outs c main_v11 = counts (v1W outs c) := (V8_of m outs c main_v11 (by decide)).trans (V7_v11 m outs c)
theorem V8_v20 (c : Dev nD) : V8 m outs c main_v20 = muli (subi (endsW (v1W outs c)) (blocks (counts (v1W outs c)))) (broadcastInDim S8 ![] bcast_S_S8 (constantI S_ 32 256#32)) :=
  (V8_of m outs c main_v20 (by decide)).trans (V7_v20 m outs c)
theorem V8_v17 (c : Dev nD) : V8 m outs c main_v17 = endsW (v1W outs c) :=
  (V8_of m outs c main_v17 (by decide)).trans <| (V7_of m outs c main_v17 (by decide)).trans (V6_v17 m outs c)
theorem V8_v3 (c : Dev nD) : V8 m outs c main_v3 = order (v1W outs c) :=
  (V8_of m outs c main_v3 (by decide)).trans <| (V7_of m outs c main_v3 (by decide)).trans <| (V6_of m outs c main_v3 (by decide)).trans <|
    (V5_of m outs c main_v3 (by decide)).trans <| (V4_of m outs c main_v3 (by decide)).trans (V3_v3 m outs c)
theorem V8_v1 (c : Dev nD) : V8 m outs c main_v1 = v1W outs c :=
  (V8_of m outs c main_v1 (by decide)).trans <| (V7_of m outs c main_v1 (by decide)).trans <| (V6_of m outs c main_v1 (by decide)).trans <|
    (V5_of m outs c main_v1 (by decide)).trans <| (V4_of m outs c main_v1 (by decide)).trans (V3_v1 m outs c)
theorem V8_v2 (c : Dev nD) : V8 m outs c main_v2 = v2W outs c :=
  (V8_of m outs c main_v2 (by decide)).trans <| (V7_of m outs c main_v2 (by decide)).trans <| (V6_of m outs c main_v2 (by decide)).trans <|
    (V5_of m outs c main_v2 (by decide)).trans <| (V4_of m outs c main_v2 (by decide)).trans <| (V3_of m outs c main_v2 (by decide)).trans (V2_v2 m outs c)

/-- The rows of the sorted picks, from the stretches before. -/
def rowV (v1 v3 : IVec S4096 32) (v11 v20 v21 : IVec S8 32) : IVec S4096 32 :=
  let se := Host.gather gather_S4096_S4096x1_S4096_n_0_n_n_0_1_1 v1 (col 4096#32 v3)
  addi (Host.gather gather_S8_S4096x1_S4096_n_0_n_n_0_1_1 v20 (col 8#32 se))
    (subi (iotaInDim S4096 32 0) (Host.gather gather_S8_S4096x1_S4096_n_0_n_n_0_1_1 (subi v21 v11) (col 8#32 se)))

theorem rowV_eq (c : Dev nD) : rowV (V8 m outs c main_v1) (V8 m outs c main_v3) (V8 m outs c main_v11) (V8 m outs c main_v20) (V8 m outs c main_v21) = rowW (v1W outs c) := by
  rw [V8_v1, V8_v3, V8_v11, V8_v20, V8_v21]; rfl

theorem V9_v54 (c : Dev nD) : V9 m outs c main_v54 = asgnW (v1W outs c) := by
  have h : V9 m outs c main_v54 = Host.scatter scatter_S6144_S4096x1_S4096_n_0_0_1 (fun _ b => b) (broadcastInDim S6144 ![] bcast_S_S6144 (constantI S_ 32 0#32))
      (col 6144#32 (rowV (V8 m outs c main_v1) (V8 m outs c main_v3) (V8 m outs c main_v11) (V8 m outs c main_v20) (V8 m outs c main_v21))) (V8 m outs c main_v3) := by
    unfold V9 hostOps1_7; after_reads_simp; rfl
  rw [h, rowV_eq, V8_v3]; rfl

theorem V9_v69 (c : Dev nD) : V9 m outs c main_v69 = gateW (v1W outs c) (v2W outs c) := by
  have h : V9 m outs c main_v69 = Host.scatter scatter_S6144_S4096x1_S4096_n_0_0_1 (fun _ b => b) (broadcastInDim S6144 ![] bcast_S_S6144 (constant S_ .f32 0x00000000#32))
      (col 6144#32 (rowV (V8 m outs c main_v1) (V8 m outs c main_v3) (V8 m outs c main_v11) (V8 m outs c main_v20) (V8 m outs c main_v21)))
      (Host.gather gather_S4096_S4096x1_S4096_n_0_n_n_0_1_1 (V8 m outs c main_v2) (col 4096#32 (V8 m outs c main_v3))) := by
    unfold V9 hostOps1_7; after_reads_simp; rfl
  rw [h, rowV_eq, V8_v3, V8_v2]; rfl

theorem V9_v77 (c : Dev nD) : V9 m outs c main_v77 = posW (v1W outs c) := by
  have h : V9 m outs c main_v77 = Host.scatter scatter_S4096_S4096x1_S4096_n_0_0_1 (fun _ b => b) (broadcastInDim S4096 ![] bcast_S_S4096 (constantI S_ 32 0#32)) (col 4096#32 (V8 m outs c main_v3))
      (rowV (V8 m outs c main_v1) (V8 m outs c main_v3) (V8 m outs c main_v11) (V8 m outs c main_v20) (V8 m outs c main_v21)) := by
    unfold V9 hostOps1_7; after_reads_simp; rfl
  rw [h, rowV_eq, V8_v3]; rfl

theorem V10_v88 (c : Dev nD) : V10 m outs c main_v88 = fdiv S6144 bcast_S_S6144 (asgnW (v1W outs c)) (constantI S_ 32 2#32) := by
  have h : V10 m outs c main_v88 = fdiv S6144 bcast_S_S6144 (V9 m outs c main_v54) (V9 m outs c main_c_22) := half_at _
  have h2 : V9 m outs c main_c_22 = constantI S_ 32 2#32 := by unfold V9 hostOps1_7; after_reads_simp; try rfl
  rw [h, h2, V9_v54]

/-- An argument is unchanged when the experts' region starts. -/
theorem V11_arg (c : Dev nD) (r : Ref sig .tc) (h11 : r ∉ hostOps1_9_W) (h10 : r ∉ hostOps1_8_W) (h9 : r ∉ hostOps1_7_W) (h8 : r ∉ hostOps1_6_W) (h7 : r ∉ hostOps1_5_W)
    (h6 : r ∉ hostOps1_4_W) (h5 : r ∉ hostOps1_3_W) (h4 : r ∉ hostOps1_2_W) (h3 : r ∉ hostOps1_1_W) (h2 : r ∉ hostOps1_W) (h1 : r ∉ ([main_v0_0, main_v0_1] : List (Ref sig .tc))) :
    V11 m outs c r = V0 m c r ∧ V10 m outs c r = V0 m c r := by
  have e : V10 m outs c r = V0 m c r :=
    (V10_of m outs c r h10).trans <| (V9_of m outs c r h9).trans <| (V8_of m outs c r h8).trans <| (V7_of m outs c r h7).trans <| (V6_of m outs c r h6).trans <|
      (V5_of m outs c r h5).trans <| (V4_of m outs c r h4).trans <| (V3_of m outs c r h3).trans <| (V2_of m outs c r h2).trans (V1_of m outs c r h1)
  exact ⟨(V11_of m outs c r h11).trans e, e⟩

theorem V12_v89 (c : Dev nD) : V12 m outs c main_v89 = takeX (V0 m c main_arg0) (fdiv S6144 bcast_S_S6144 (asgnW (v1W outs c)) (constantI S_ 32 2#32)) := by
  rw [← V10_v88 m outs c, ← (V11_arg m outs c main_arg0 (by decide) (by decide) (by decide) (by decide) (by decide) (by decide) (by decide) (by decide) (by decide) (by decide) (by decide)).2]
  exact (V12_of m outs c main_v89 (by decide)).trans (takeX_at _)

theorem V12_v90 (c : Dev nD) : V12 m outs c main_v90 = truncf .bf16 (V0 m c main_arg2) bitsLt_bf16_f32 := by
  rw [← (V11_arg m outs c main_arg2 (by decide) (by decide) (by decide) (by decide) (by decide) (by decide) (by decide) (by decide) (by decide) (by decide) (by decide)).1]
  unfold V12 hostOps1_10; after_reads_simp; try rfl

theorem V12_v91 (c : Dev nD) : V12 m outs c main_v91 = truncf .bf16 (V0 m c main_arg4) bitsLt_bf16_f32 := by
  rw [← (V11_arg m outs c main_arg4 (by decide) (by decide) (by decide) (by decide) (by decide) (by decide) (by decide) (by decide) (by decide) (by decide) (by decide)).1]
  unfold V12 hostOps1_10; after_reads_simp; try rfl

theorem V12_v92 (c : Dev nD) : V12 m outs c main_v92 = shapeCast S8x1x2048 (V0 m c main_arg3) shapeCasts_S8x2048_S8x1x2048 := by
  rw [← (V11_arg m outs c main_arg3 (by decide) (by decide) (by decide) (by decide) (by decide) (by decide) (by decide) (by decide) (by decide) (by decide) (by decide)).1]
  unfold V12 hostOps1_10; after_reads_simp; rfl

theorem V12_v93 (c : Dev nD) : V12 m outs c main_v93 = shapeCast S8x1x1024 (V0 m c main_arg5) shapeCasts_S8x1024_S8x1x1024 := by
  rw [← (V11_arg m outs c main_arg5 (by decide) (by decide) (by decide) (by decide) (by decide) (by decide) (by decide) (by decide) (by decide) (by decide) (by decide)).1]
  unfold V12 hostOps1_10; after_reads_simp; rfl

theorem V12_v94 (c : Dev nD) : V12 m outs c main_v94 = shapeCast S6144x1 (gateW (v1W outs c) (v2W outs c)) shapeCasts_S6144_S6144x1 := by
  rw [← V9_v69 m outs c, ← V10_of m outs c main_v69 (by decide), ← V11_of m outs c main_v69 (by decide)]
  unfold V12 hostOps1_10; after_reads_simp; rfl

theorem V12_v87 (c : Dev nD) : V12 m outs c main_v87 = blockExpert (endsW (v1W outs c)) := (V12_main_v87 m outs c).trans (congrArg blockExpert (V8_v17 m outs c))

theorem V14_v96 (c : Dev nD) : V14 m outs c main_v96 = shapeCast S2048x2 (posW (v1W outs c)) shapeCasts_S4096_S2048x2 := by
  rw [← V9_v77 m outs c, ← V10_of m outs c main_v77 (by decide), ← V11_of m outs c main_v77 (by decide), ← V12_of m outs c main_v77 (by decide), ← V13_of m outs c main_v77 (by decide)]
  unfold V14 hostOps2; after_reads_simp; rfl

theorem V14_v95 (c : Dev nD) : V14 m outs c main_v95 = outs 13 main_v95 c := by
  refine (V14_of m outs c main_v95 (by decide)).trans ?_
  simp only [V13]; rw [Function.update_self]

theorem V16_v98 (c : Dev nD) : V16 m outs c main_v98
    = Host.reduceAdd (takeY (outs 13 main_v95 c) (shapeCast S2048x2 (posW (v1W outs c)) shapeCasts_S4096_S2048x2)) (constant S_ .f32 0x00000000#32) reducesTo_S2048x2x1024_S2048x1024_d1 h_S_ := by
  have h : V15 m outs c main_v97 = takeY (V14 m outs c main_v95) (V14 m outs c main_v96) := takeY_at _
  rw [← V14_v96 m outs c, ← V14_v95 m outs c, ← h]
  unfold V16 hostOps2_2; after_reads_simp; try rfl

end Cert.KernelIdealPf
-- ==== Proof.Disp.Take.lean ====
/- The two takes, at indices in range. -/
module

public import proofs.«01_k».proof.Proof.Disp.Reads
public import Idealize.ShloMosaic.Lib.ReduceAll

@[expose] public section

set_option maxRecDepth 16384

noncomputable section

namespace Cert.KernelIdealPf

open Cert.KernelIdeal hiding ix1
open Cert.KernelIdeal.Gen
open Idealize.ShloMosaic hiding ix1
open Idealize.ShloMosaic.TcCoe Idealize.ShloMosaic.Tactic
open Idealize.ShloMosaic.Routing (wrap_of_lt slt_ofNat32 sle_ofNat32)

/-- A conjunction over one index's part of an array, all ones. -/
theorem all_one {s t u : Shape} {axes : List (Fin s.rank)} (x : s.Idx → BitVec 1) (init : u.Idx → BitVec 1) (h : s.ReducesTo axes t) (hu : 0 < u.numel) (j : t.Idx)
    (hi : init (Shape.Idx.first hu) = 1#1) (hx : ∀ i, h.drop i = j → x i = 1#1) : Host.reduce IntOp.andi x init h hu j = 1#1 := by
  rw [Host.reduce_eq_foldl]
  exact IntOp.foldl_andi_one x _ _ hi fun n hn => hx n (of_decide_eq_true (List.mem_filter.1 hn).2)

/-- A gather of rows at a table of indices. -/
theorem gather_at (x : FVec Ideal S6144x1024 .f32) (idx : IVec S2048x2x1 32) (b : Fin 2048) (k : Fin 2) (o : Fin 1024) (p : Fin 6144) (hp : idx (ix3 b k 0) = BitVec.ofNat 32 p.val) :
    Host.gather gather_S6144x1024_S2048x2x1_S2048x2x1024_2_0_n_n_0_2_11024 x idx (ix3 b k o) = x (ix2 p o) := by
  unfold Host.gather
  refine congrArg x (funext fun a => Fin.ext ?_)
  generalize hd : gather_S6144x1024_S2048x2x1_S2048x2x1024_2_0_n_n_0_2_11024 = d
  match a with
  | ⟨0, _⟩ =>
    show d.start (ix3 b k o) idx 0 + d.batchCoord (ix3 b k o) 0 + d.offCoord (ix3 b k o) 0 = p.val
    subst hd
    rw [GatherDims.batchCoord_eq_zero _ _ _ (by decide), GatherDims.offCoord_eq_zero _ _ _ (by decide)]
    unfold GatherDims.start
    rw [dif_pos (by decide)]
    have hs : ∀ h, GatherDims.siIdx gather_S6144x1024_S2048x2x1_S2048x2x1024_2_0_n_n_0_2_11024 (ix3 b k o) ⟨0, h⟩ = ix3 b k 0 := fun h => by
      funext q
      fin_cases q <;> rfl
    have hpl := p.isLt
    refine (congrArg (fun w : BitVec 32 => min w.toInt.toNat (6144 - 1) + 0 + 0) ((congrArg idx (hs (by decide))).trans hp)).trans ?_
    rw [StableHlo.Predicate.toInt_ofNat_small _ (by omega)]
    show min ((p.val : Int)).toNat (6144 - 1) + 0 + 0 = p.val
    omega
  | ⟨1, _⟩ =>
    show d.start (ix3 b k o) idx 1 + d.batchCoord (ix3 b k o) 1 + d.offCoord (ix3 b k o) 1 = o.val
    subst hd
    rw [GatherDims.batchCoord_eq_zero _ _ _ (by decide)]
    unfold GatherDims.start
    rw [dif_neg (by decide)]
    exact (Nat.zero_add _)

/-- A wrapped index in range, and its two bounds. -/
theorem wrap_in (w a : BitVec 32) (n k : ℕ) (hw : w = BitVec.ofNat 32 n) (hn : n ≤ k) (hk : k < 2 ^ 31) : Scalar.select (IntOp.cmpi .slt w 0#32) a w = BitVec.ofNat 32 n
    ∧ IntOp.andi (IntOp.cmpi .sge (BitVec.ofNat 32 n) 0#32) (IntOp.cmpi .sle (BitVec.ofNat 32 n) (BitVec.ofNat 32 k)) = 1#1 := by
  refine ⟨?_, ?_⟩
  · rw [wrap_of_lt _ _ (by rw [hw, BitVec.toNat_ofNat]; omega), hw]
  · have h1 : IntOp.cmpi .sge (BitVec.ofNat 32 n) 0#32 = 1#1 := by
      show BitVec.ofBool ((BitVec.ofNat 32 0).sle (BitVec.ofNat 32 n)) = 1#1
      rw [sle_ofNat32 (by omega) (by omega), decide_eq_true (by omega)]; rfl
    have h2 : IntOp.cmpi .sle (BitVec.ofNat 32 n) (BitVec.ofNat 32 k) = 1#1 := by
      show BitVec.ofBool ((BitVec.ofNat 32 n).sle (BitVec.ofNat 32 k)) = 1#1
      rw [sle_ofNat32 (by omega) (by omega), decide_eq_true hn]; rfl
    rw [h1, h2]; rfl

theorem one_select {α : Type} (a b : α) : Scalar.select (1#1) a b = a := rfl

theorem colX (i : IVec S6144 32) (p : Fin 6144) :
    broadcastInDim S6144x1 ![0] bcast_S6144_S6144x1_0
      (select (cmpi .slt i (broadcastInDim S6144 ![] bcast_S_S6144 (constantI S_ 32 0#32))) (addi i (broadcastInDim S6144 ![] bcast_S_S6144 (constantI S_ 32 2048#32))) i) (ix2 p 0)
    = Scalar.select (IntOp.cmpi .slt (i (ValueIdx.ix1 p)) 0#32) (IntOp.addi (i (ValueIdx.ix1 p)) 2048#32) (i (ValueIdx.ix1 p)) := by
  pointwise
  rfl

theorem colY (i : IVec S2048x2 32) (b : Fin 2048) (k : Fin 2) :
    broadcastInDim S2048x2x1 ![0, 1] bcast_S2048x2_S2048x2x1_0_1
      (select (cmpi .slt i (broadcastInDim S2048x2 ![] bcast_S_S2048x2 (constantI S_ 32 0#32))) (addi i (broadcastInDim S2048x2 ![] bcast_S_S2048x2 (constantI S_ 32 6144#32))) i) (ix3 b k 0)
    = Scalar.select (IntOp.cmpi .slt (i (ValueIdx.ix2 b k)) 0#32) (IntOp.addi (i (ValueIdx.ix2 b k)) 6144#32) (i (ValueIdx.ix2 b k)) := by
  pointwise
  rfl

theorem takeX_ap (x : FVec Ideal S2048x1024 .f32) (i : IVec S6144 32) (p : Fin 6144) (d : Fin 1024) (b : Fin 2048) (hi : i (ValueIdx.ix1 p) = BitVec.ofNat 32 b.val) :
    takeX x i (ix2 p d) = x (ix2 b d) := by
  have hb := b.isLt
  have hw := wrap_in _ (IntOp.addi (i (ValueIdx.ix1 p)) 2048#32) b.val 2047 hi (by omega) (by omega)
  pointwise [takeX]
  rw [all_one _ _ _ _ _ rfl fun q hq => ?_]
  · refine (one_select _ _).trans ?_
    exact Routing.gather_row _ rfl rfl rfl rfl rfl x _ p d b ((colX i p).trans hw.1) (by omega)
  · have h0 : q = ix2 p 0 := by
      funext z
      fin_cases z
      · exact congrFun hq 0
      · exact Subsingleton.elim (α := Fin 1) _ _
    subst h0
    refine Eq.trans ?_ hw.2
    exact congrArg (fun w => IntOp.andi (IntOp.cmpi .sge w 0#32) (IntOp.cmpi .sle w (BitVec.ofNat 32 2047))) ((colX i p).trans hw.1)

theorem takeY_ap (x : FVec Ideal S6144x1024 .f32) (i : IVec S2048x2 32) (b : Fin 2048) (k : Fin 2) (d : Fin 1024) (p : Fin 6144) (hi : i (ValueIdx.ix2 b k) = BitVec.ofNat 32 p.val) :
    takeY x i (ix3 b k d) = x (ix2 p d) := by
  have hb := p.isLt
  have hw := wrap_in _ (IntOp.addi (i (ValueIdx.ix2 b k)) 6144#32) p.val 6143 hi (by omega) (by omega)
  pointwise [takeY]
  rw [all_one _ _ _ _ _ rfl fun q hq => ?_]
  · refine (one_select _ _).trans ?_
    exact gather_at x _ b k d p ((colY i b k).trans hw.1)
  · have h0 : q = ix3 b k 0 := by
      funext z
      fin_cases z
      · exact congrFun hq 0
      · exact congrFun hq 1
      · exact Subsingleton.elim (α := Fin 1) _ _
    subst h0
    refine Eq.trans ?_ hw.2
    exact congrArg (fun w => IntOp.andi (IntOp.cmpi .sge w 0#32) (IntOp.cmpi .sle w (BitVec.ofNat 32 6143))) ((colY i b k).trans hw.1)

end Cert.KernelIdealPf
-- ==== Proof.Val.Kern.lean ====
/- The kernel's result at an index, from real scores. -/
module

public import proofs.«01_k».proof.Proof.Val.Arr0
public import proofs.«01_k».proof.Proof.Val.Arr1
public import proofs.«01_k».proof.Proof.Val.RefVal
public import proofs.«01_k».proof.Proof.Disp.Take

@[expose] public section

set_option maxRecDepth 16384

noncomputable section

namespace Cert.KernelIdealPf

open Cert.KernelIdeal hiding ix1
open Cert.KernelIdeal.Gen Cert.KernelIdeal.Pf
open Idealize.ShloMosaic Idealize.ShloMosaic.TcCoe Idealize.ShloMosaic.Tactic
open Cert.Val (mx am msk gt dense soft expert logEps Rl)
open Cert.ReferenceIdeal.Pf (lgR exR pl pl_facts)

/-! ## Reshapes and the sum over a token's two experts -/

theorem cast92 (x : FVec Ideal S8x2048 .f32) (e : Fin 8) (h : Fin 2048) : shapeCast S8x1x2048 x shapeCasts_S8x2048_S8x1x2048 (ix3 e 0 h) = x (ix2 e h) := by
  refine shapeCast_apply x shapeCasts_S8x2048_S8x1x2048 _ _ ?_
  rw [Shape.rowMajor_val_two, Shape.rowMajor_val_three]
  show e.val * 2048 + h.val = (e.val * 1 + 0) * 2048 + h.val
  omega

theorem cast93 (x : FVec Ideal S8x1024 .f32) (e : Fin 8) (h : Fin 1024) : shapeCast S8x1x1024 x shapeCasts_S8x1024_S8x1x1024 (ix3 e 0 h) = x (ix2 e h) := by
  refine shapeCast_apply x shapeCasts_S8x1024_S8x1x1024 _ _ ?_
  rw [Shape.rowMajor_val_two, Shape.rowMajor_val_three]
  show e.val * 1024 + h.val = (e.val * 1 + 0) * 1024 + h.val
  omega

theorem cast94 (x : FVec Ideal S6144 .f32) (p : Fin 6144) : shapeCast S6144x1 x shapeCasts_S6144_S6144x1 (ix2 p 0) = x (ValueIdx.ix1 p) :=
  Routing.cast12 (a := 6144) (b := 1) x shapeCasts_S6144_S6144x1 p 0 p (by show p.val = p.val * 1 + 0; omega)

/-- The assignment of a token's k-th expert. -/
def asg (b : Fin 2048) (k : Fin 2) : Fin 4096 := ⟨b.val * 2 + k.val, by omega⟩

theorem sum98 (y : FVec Ideal S2048x2x1024 .f32) (b : Fin 2048) (o : Fin 1024) :
    Host.reduceAdd y (constant (F := Ideal) S_ .f32 0x00000000#32) reducesTo_S2048x2x1024_S2048x1024_d1 h_S_ (ix2 b o) = ∑ k : Fin 2, y (ix3 b k o) := by
  pointwise

/-! ## The picks -/

theorem pickW_eq (l : Fin 8 → EReal) (hl : ∀ e, Rl (l e)) (k : Fin 2) : pickW l k = BitVec.ofNat 32 (pl l k).val := by
  obtain ⟨h0, -, h1, -⟩ := pl_facts l hl
  fin_cases k
  · exact h0
  · exact h1

theorem pickG_eq (l : Fin 8 → EReal) (hl : ∀ e, Rl (l e)) : pickG l 0 = gt (l (pl l 0)) (l (pl l 1)) ∧ pickG l 1 = gt (l (pl l 1)) (l (pl l 0)) := by
  obtain ⟨-, h0, -, h1, -⟩ := pl_facts l hl
  unfold pickG
  rw [h0, h1]
  exact ⟨if_pos rfl, if_neg (by decide)⟩

/-! ## The three regions' results -/

variable (m : (ℓ : Loc nD τ sig) → Buf (Elt Ideal) ℓ) (c : Dev nD)

/-- The arguments. -/
abbrev ax : FVec Ideal S2048x1024 .f32 := m ((c.tc : Thread nD τ).loc main_arg0)
abbrev ag : FVec Ideal S1024x8 .f32 := m ((c.tc : Thread nD τ).loc main_arg1)
abbrev aw1 : FVec Ideal S8x1024x2048 .f32 := m ((c.tc : Thread nD τ).loc main_arg2)
abbrev ab1 : FVec Ideal S8x2048 .f32 := m ((c.tc : Thread nD τ).loc main_arg3)
abbrev aw2 : FVec Ideal S8x2048x1024 .f32 := m ((c.tc : Thread nD τ).loc main_arg4)
abbrev ab2 : FVec Ideal S8x1024 .f32 := m ((c.tc : Thread nD τ).loc main_arg5)

theorem router_W (b : Fin 2048) (k : Fin 2) : (show S2048x2.Idx → BitVec 32 from outsA m 1 main_v0_0 c) (ix2 b k) = pickW (lg (ax m c) (ag m c) b) k :=
  (congrFun (Pipeline.afterRegion_arr (dat0 (rdv (V0 m)) c) (V0 m c) winFacts0.arr_inj 2) (ix2 b k)).trans (arr0_2 (rdv (V0 m)) c b k)

theorem router_G (b : Fin 2048) (k : Fin 2) : (show S2048x2.Idx → EReal from outsA m 1 main_v0_1 c) (ix2 b k) = pickG (lg (ax m c) (ag m c) b) k :=
  (congrFun (Pipeline.afterRegion_arr (dat0 (rdv (V0 m)) c) (V0 m c) winFacts0.arr_inj 3) (ix2 b k)).trans (arr0_3 (rdv (V0 m)) c b k)

theorem final_out (b : Fin 2048) (o : Fin 1024) : (show S2048x1024.Idx → EReal from outs m 17 main_v99 c) (ix2 b o)
    = logEps ((show S2048x1024.Idx → EReal from V16 m (outsB m) c main_v98) (ix2 b o)) :=
  (congrFun (Pipeline.afterRegion_arr (dat2 (rdv (V16 m (outsB m))) c) (V16 m (outsB m) c) winFacts2.arr_inj 1) (ix2 b o)).trans (arr2 (rdv (V16 m (outsB m))) c b o)

theorem experts_out (E : Fin 24 → Fin 8) (hE : ∀ j, ((tab m 0 : IVec S24 32) (ValueIdx.ix1 j)).toNat = (E j).val) (j : Fin 24) (p : Fin 6144) (hp : p.val / 256 = j.val) (o : Fin 1024) :
    (show S6144x1024.Idx → EReal from outsB m 13 main_v95 c) (ix2 p o)
      = zRow (V12 m (outsA m) c main_v89) (V12 m (outsA m) c main_v90) (V12 m (outsA m) c main_v92) (V12 m (outsA m) c main_v91) (V12 m (outsA m) c main_v93) (V12 m (outsA m) c main_v94)
          (E j) p o :=
  (congrFun (Pipeline.afterRegion_arr (dat1 (rdv (V12 m (outsA m))) (adm m) c) (V12 m (outsA m) c) winFacts1.arr_inj 6) (ix2 p o)).trans
    (arr1 (rdv (V12 m (outsA m))) c (adm m) E hE j p hp o)

theorem v1_ap (b : Fin 2048) (k : Fin 2) : v1W (outsA m) c (ValueIdx.ix1 (asg b k)) = pickW (lg (ax m c) (ag m c) b) k :=
  (Routing.cast21 (a := 2048) (b := 2) (show S2048x2.Idx → BitVec 32 from outsA m 1 main_v0_0 c) shapeCasts_S2048x2_S4096 b k (asg b k) rfl).trans (router_W m c b k)

theorem v2_ap (b : Fin 2048) (k : Fin 2) : v2W (outsA m) c (ValueIdx.ix1 (asg b k)) = pickG (lg (ax m c) (ag m c) b) k :=
  (Routing.cast21 (a := 2048) (b := 2) (show S2048x2.Idx → EReal from outsA m 1 main_v0_1 c) shapeCasts_S2048x2_S4096 b k (asg b k) rfl).trans (router_G m c b k)

/-- The row of an expert's work, the operands read. -/
theorem z_read (e : Fin 8) (p : Fin 6144) (b : Fin 2048) (a : Fin 4096) (hb : a.val / 2 = b.val) (hp : asgnW (v1W (outsA m) c) (ValueIdx.ix1 p) = BitVec.ofNat 32 a.val)
    (hg : gateW (v1W (outsA m) c) (v2W (outsA m) c) (ValueIdx.ix1 p) = v2W (outsA m) c (ValueIdx.ix1 a)) (o : Fin 1024) :
    zRow (V12 m (outsA m) c main_v89) (V12 m (outsA m) c main_v90) (V12 m (outsA m) c main_v92) (V12 m (outsA m) c main_v91) (V12 m (outsA m) c main_v93) (V12 m (outsA m) c main_v94) e p o
      = exR (ax m c) (aw1 m c) (ab1 m c) (aw2 m c) (ab2 m c) b e o * v2W (outsA m) c (ValueIdx.ix1 a) := by
  rw [V12_v89, V12_v90, V12_v92, V12_v91, V12_v93, V12_v94]
  unfold zRow exR
  rw [cast94, hg]
  have hi : fdiv S6144 bcast_S_S6144 (asgnW (v1W (outsA m) c)) (constantI S_ 32 2#32) (ValueIdx.ix1 p) = BitVec.ofNat 32 b.val :=
    (fdiv_ap S6144 bcast_S_S6144 _ 2 (by decide) (by decide) (ValueIdx.ix1 p) (a := a.val) (by omega) hp).trans (by rw [hb])
  have h0 : (fun d => takeX (V0 m c main_arg0) (fdiv S6144 bcast_S_S6144 (asgnW (v1W (outsA m) c)) (constantI S_ 32 2#32)) (ix2 p d)) = fun d => ax m c (ix2 b d) :=
    funext fun d => takeX_ap _ _ p d b hi
  have h2 : (fun h => shapeCast S8x1x2048 (V0 m c main_arg3) shapeCasts_S8x2048_S8x1x2048 (ix3 e 0 h)) = fun h => ab1 m c (ix2 e h) := funext fun h => cast92 _ e h
  have h4 : (fun h => shapeCast S8x1x1024 (V0 m c main_arg5) shapeCasts_S8x1024_S8x1x1024 (ix3 e 0 h)) = fun h => ab2 m c (ix2 e h) := funext fun h => cast93 _ e h
  rw [h0, h2, h4]
  rfl

/-- An assignment's expert, by its number. -/
def exOf (n : ℕ) : ℕ := (pl (lg (ax m c) (ag m c) ⟨n / 2 % 2048, Nat.mod_lt _ (by decide)⟩) ⟨n % 2, Nat.mod_lt _ (by decide)⟩).val

theorem exOf_asg (b : Fin 2048) (k : Fin 2) : exOf m c (asg b k).val = (pl (lg (ax m c) (ag m c) b) k).val := by
  unfold exOf
  have h1 : (⟨(asg b k).val / 2 % 2048, Nat.mod_lt _ (by decide)⟩ : Fin 2048) = b := Fin.ext (by show (b.val * 2 + k.val) / 2 % 2048 = b.val; omega)
  have h2 : (⟨(asg b k).val % 2, Nat.mod_lt _ (by decide)⟩ : Fin 2) = k := Fin.ext (by show (b.val * 2 + k.val) % 2 = k.val; omega)
  rw [h1, h2]

theorem asg_surj (a : Fin 4096) : ∃ b k, a = asg b k := ⟨⟨a.val / 2, by omega⟩, ⟨a.val % 2, by omega⟩, Fin.ext (by show a.val = a.val / 2 * 2 + a.val % 2; omega)⟩

/-- What the last region reads. -/
theorem combined (hl : ∀ b e, Rl (lg (ax m c) (ag m c) b e)) (b : Fin 2048) (o : Fin 1024) :
    (show S2048x1024.Idx → EReal from V16 m (outsB m) c main_v98) (ix2 b o)
      = ∑ k : Fin 2, exR (ax m c) (aw1 m c) (ab1 m c) (aw2 m c) (ab2 m c) b (pl (lg (ax m c) (ag m c) b) k) o * pickG (lg (ax m c) (ag m c) b) k := by
  obtain rfl : c = 0 := Subsingleton.elim _ _
  have hv : ∀ a : Fin 4096, v1W (outsA m) 0 (ValueIdx.ix1 a) = BitVec.ofNat 32 (exOf m 0 a.val) := fun a => by
    obtain ⟨b, k, rfl⟩ := asg_surj a
    rw [v1_ap, exOf_asg, pickW_eq _ (hl b)]
  obtain ⟨P, hP⟩ := dispatch (v1W (outsA m) 0) (exOf m 0) hv fun a => Fin.isLt _
  have hT : (tab m 0 : IVec S24 32) = blockExpert (endsW (v1W (outsA m) 0)) := V12_v87 m (outsA m) 0
  have hz : ∀ k, (show S6144x1024.Idx → EReal from outsB m 13 main_v95 0) (ix2 (P (asg b k)) o)
      = exR (ax m 0) (aw1 m 0) (ab1 m 0) (aw2 m 0) (ab2 m 0) b (pl (lg (ax m 0) (ag m 0) b) k) o * pickG (lg (ax m 0) (ag m 0) b) k := fun k => by
    have hlt : (P (asg b k)).val / 256 < 24 := by omega
    obtain ⟨-, h1, h2, h3⟩ := hP (asg b k)
    refine (experts_out m 0 (fun j => ⟨((tab m 0 : IVec S24 32) (ValueIdx.ix1 j)).toNat, by rw [hT]; exact blockExpert_lt _ _⟩) (fun _ => rfl)
      ⟨(P (asg b k)).val / 256, hlt⟩ (P (asg b k)) rfl o).trans ?_
    refine (z_read m 0 _ _ b (asg b k) (by show (b.val * 2 + k.val) / 2 = b.val; omega) h1 (h2 Ideal _) o).trans ?_
    rw [v2_ap]
    have hE : (⟨((tab m 0 : IVec S24 32) (ValueIdx.ix1 ⟨(P (asg b k)).val / 256, hlt⟩)).toNat, by rw [hT]; exact blockExpert_lt _ _⟩ : Fin 8) = pl (lg (ax m 0) (ag m 0) b) k := Fin.ext (by
      show ((tab m 0 : IVec S24 32) (ValueIdx.ix1 ⟨(P (asg b k)).val / 256, hlt⟩)).toNat = _
      rw [hT, h3 hlt, exOf_asg, BitVec.toNat_ofNat, Nat.mod_eq_of_lt (by omega)])
    rw [hE]
  refine (congrFun (V16_v98 m (outsB m) 0) (ix2 b o)).trans ((sum98 _ b o).trans (Finset.sum_congr rfl fun k _ => ?_))
  refine (takeY_ap _ _ b k o (P (asg b k)) ?_).trans (hz k)
  exact (Routing.cast12 (a := 2048) (b := 2) (posW (v1W (outsA m) 0)) shapeCasts_S4096_S2048x2 b k (asg b k) rfl).trans (hP (asg b k)).1

/-- The kernel's result. -/
theorem kernel_at (hl : ∀ b e, Rl (lg (ax m c) (ag m c) b e)) (b : Fin 2048) (o : Fin 1024) : (show S2048x1024.Idx → EReal from outs m 17 main_v99 c) (ix2 b o)
    = logEps (exR (ax m c) (aw1 m c) (ab1 m c) (aw2 m c) (ab2 m c) b (pl (lgR (ax m c) (ag m c) b) 0) o
          * gt (lgR (ax m c) (ag m c) b (pl (lgR (ax m c) (ag m c) b) 0)) (lgR (ax m c) (ag m c) b (pl (lgR (ax m c) (ag m c) b) 1))
        + exR (ax m c) (aw1 m c) (ab1 m c) (aw2 m c) (ab2 m c) b (pl (lgR (ax m c) (ag m c) b) 1) o
          * gt (lgR (ax m c) (ag m c) b (pl (lgR (ax m c) (ag m c) b) 1)) (lgR (ax m c) (ag m c) b (pl (lgR (ax m c) (ag m c) b) 0))) := by
  rw [final_out, combined m c hl, Fin.sum_univ_two, (pickG_eq _ (hl b)).1, (pickG_eq _ (hl b)).2]
  rfl

end Cert.KernelIdealPf
-- ==== Proof.Val.Real.lean ====
/- The precondition's word at every element of an argument: a real number. -/
module

public import proofs.«01_k».proof.Proof.Val.Consts
public import proofs.«01_k».proof.Proof.Finite
public import Idealize.ShloMosaic.Lib.ReduceAll
public import Idealize.ShloMosaic.Lib.Pointwise
public import Idealize.ShloMosaic.Lib.Tactic

@[expose] public section

noncomputable section

namespace Cert.Pre_finite.Pf

open Cert.Pre_finite Cert.Pre_finite.Facts Idealize.ShloMosaic
open Cert.Val (Rl)

theorem inf_top : Ideal.ofBits .f32 0x7F800000#32 = ⊤ := by
  simp [Ideal.ofBits, Ideal.ieee]

/-- The magnitude below infinity is a real number's. -/
theorem rl_of_lt (x : EReal) (h : max x (-x) < ⊤) : Rl x := by
  induction x with
  | bot => simp at h
  | top => simp at h
  | coe r => exact ⟨r, rfl⟩

/-- Every element's magnitude below infinity, by the whole array's conjunction. -/
theorem real_of {s : Shape} {dims : List (Fin s.rank)} (x : FVec Ideal s .f32) (hb : S_.BroadcastsInDim s (![] : Fin 0 → Fin s.rank)) (hr : s.ReducesTo dims S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) (i : s.Idx) :
    Rl (x i) := by
  haveI : Subsingleton S_.Idx := ⟨fun a b => funext fun k => k.elim0⟩
  have := Host.reduce_andi_all _ _ hr hu j h i
  refine rl_of_lt (x i) ?_
  have h2 : BitVec.ofBool (decide (max (x i) (-(x i)) < Ideal.ofBits .f32 0x7F800000#32)) = 1#1 := this
  rw [inf_top] at h2
  by_contra hc
  rw [decide_eq_false hc] at h2
  exact absurd h2 (by decide)

variable [Facts]

/-- The precondition gives real numbers throughout. -/
theorem reals (x : FVec Ideal S2048x1024 .f32) (wg : FVec Ideal S1024x8 .f32) (w1 : FVec Ideal S8x1024x2048 .f32) (b1 : FVec Ideal S8x2048 .f32) (w2 : FVec Ideal S8x2048x1024 .f32)
    (b2 : FVec Ideal S8x1024 .f32) (h : fn x wg w1 b1 w2 b2 = fun _ => 1#1) :
    (∀ i, Rl (x i)) ∧ (∀ i, Rl (wg i)) ∧ (∀ i, Rl (w1 i)) ∧ (∀ i, Rl (b1 i)) ∧ (∀ i, Rl (w2 i)) ∧ ∀ i, Rl (b2 i) := by
  have j : S_.Idx := Shape.Idx.first h_S_
  have h0 := congrFun h j
  obtain ⟨h5, r5⟩ := IntOp.andi_eq_one.mp h0
  obtain ⟨h4, r4⟩ := IntOp.andi_eq_one.mp h5
  obtain ⟨h3, r3⟩ := IntOp.andi_eq_one.mp h4
  obtain ⟨h2, r2⟩ := IntOp.andi_eq_one.mp h3
  obtain ⟨r0, r1⟩ := IntOp.andi_eq_one.mp h2
  exact ⟨real_of x bcast_S_S2048x1024 reducesTo_S2048x1024_S_d0_1 h_S_ j r0, real_of wg bcast_S_S1024x8 reducesTo_S1024x8_S_d0_1 h_S_ j r1,
    real_of w1 bcast_S_S8x1024x2048 reducesTo_S8x1024x2048_S_d0_1_2 h_S_ j r2, real_of b1 bcast_S_S8x2048 reducesTo_S8x2048_S_d0_1 h_S_ j r3,
    real_of w2 bcast_S_S8x2048x1024 reducesTo_S8x2048x1024_S_d0_1_2 h_S_ j r4, real_of b2 bcast_S_S8x1024 reducesTo_S8x1024_S_d0_1 h_S_ j r5⟩

end Cert.Pre_finite.Pf
-- ==== Proof.Alg.lean ====
/- The kernel and the reference over the extended reals, from finite arguments: equal results. -/
module

public import proofs.«01_k».proof.Proof.Val.Kern
public import proofs.«01_k».proof.Proof.Val.Real
public import proofs.«01_k».proof.Proof.KI.Run
public import proofs.«01_k».proof.Proof.Frames

@[expose] public section

set_option maxRecDepth 16384

noncomputable section

namespace Cert.Alg

open Idealize.ShloMosaic Idealize.ShloMosaic.TcCoe Idealize.SL.Sem
open Cert.Val (Rl)

/-- The two results, from the same finite arguments. -/
theorem result_eq (m : (ℓ : Loc KernelIdeal.nD KernelIdeal.τ KernelIdeal.sig) → Buf (Elt Ideal) ℓ) (c : Dev KernelIdeal.nD)
    (hx : ∀ i, Rl (KernelIdealPf.ax m c i)) (hg : ∀ i, Rl (KernelIdealPf.ag m c i)) (h1 : ∀ i, Rl (KernelIdealPf.aw1 m c i)) (hb1 : ∀ i, Rl (KernelIdealPf.ab1 m c i))
    (h2 : ∀ i, Rl (KernelIdealPf.aw2 m c i)) (hb2 : ∀ i, Rl (KernelIdealPf.ab2 m c i)) :
    ReferenceIdeal.Pf.all (KernelIdealPf.ax m c) (KernelIdealPf.ag m c) (KernelIdealPf.aw1 m c) (KernelIdealPf.ab1 m c) (KernelIdealPf.aw2 m c) (KernelIdealPf.ab2 m c)
      = (show KernelIdeal.S2048x1024.Idx → EReal from KernelIdeal.Pf.outs m 17 KernelIdeal.main_v99 c) := by
  funext i
  have hi : i = ix2 (i 0) (i 1) := funext fun k => by fin_cases k <;> rfl
  rw [hi]
  refine (ReferenceIdeal.Pf.all_at _ _ _ _ _ _ hx hg h1 hb1 h2 hb2 (i 0) (i 1)).trans (KernelIdealPf.kernel_at m c (fun b e => ?_) (i 0) (i 1)).symm
  exact Rl.sum _ _ fun k _ => (hx _).mul (hg _)

theorem algebraic [Cert.Pre_finite.Facts] : Cert.algebraic_KernelIdeal_ReferenceIdeal_pre_finite := by
  intro m g m' g' hpre heq
  refine ⟨fun c => KernelIdeal.Pf.outs m 17 KernelIdeal.main_v99 c, ?_, ?_⟩
  · exact (θ_run Cert.KernelIdeal.defs _ _).mono (fun r h => h.1) (KernelIdeal.Pf.run (F := Ideal) m g)
  · refine (θ_run Cert.ReferenceIdeal.defs _ _).mono (fun r h c => ⟨(h c).1.trans ?_, (h c).2⟩) (ReferenceIdeal.Value.run (F := Ideal) m' g')
    obtain ⟨hx, hg, h1, hb1, h2, hb2⟩ := Pre_finite.Pf.reals _ _ _ _ _ _ (hpre c)
    obtain ⟨e0, e1, e2, e3, e4, e5⟩ := heq c
    rw [ReferenceIdeal.Pf.res_eq, e0, e1, e2, e3, e4, e5]
    exact result_eq m c hx hg h1 hb1 h2 hb2

end Cert.Alg
-- ==== Proof.lean ====
/- The proof of the claim. -/
module

public import proofs.«01_k».proof.Defs
public import proofs.«01_k».proof.Proof.Finite
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  haveI : Cert.Pre_finite.Facts := Cert.Pre_finite.Pf.sides
  ⟨Cert.Kernel.Gen.facts, Cert.KernelIdeal.Gen.facts, Cert.ReferenceIdeal.Gen.facts, Cert.Pre_finite.Pf.sides, Cert.Frames.kernel, Cert.Frames.kernelIdeal,
    Cert.Frames.kernelIdeal_pre, Cert.Frames.referenceIdeal, Cert.Frames.referenceIdeal_pre, trivial, Cert.Alg.algebraic⟩

end Cert.Proof

end
